-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usage_in_range [hPre_usage_in_range : Cert.Pre_usage_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_usage_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usage_in_range [hPre_usage_in_range : Cert.Pre_usage_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usage_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_usage_in_range [hKernelIdeal : Cert.KernelIdeal.Facts] [hPre_usage_in_range : Cert.Pre_usage_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usage_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_usage_in_range [hReferenceIdeal : Cert.ReferenceIdeal.Facts] [hPre_usage_in_range : Cert.Pre_usage_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usage_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_usage_in_range [hKernelIdeal : Cert.KernelIdeal.Facts] [hReferenceIdeal : Cert.ReferenceIdeal.Facts] [hPre_usage_in_range : Cert.Pre_usage_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usage_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v1_3)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_4)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_0)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_3) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_4) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_0) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_usage_in_range : Cert.Pre_usage_in_range.Facts),
    quiescent_Kernel (hKernel := hKernel)
    ∧ quiescent_KernelIdeal (hKernelIdeal := hKernelIdeal)
    ∧ quiescent_KernelIdeal_pre_usage_in_range (hKernelIdeal := hKernelIdeal) (hPre_usage_in_range := hPre_usage_in_range)
    ∧ quiescent_ReferenceIdeal (hReferenceIdeal := hReferenceIdeal)
    ∧ quiescent_ReferenceIdeal_pre_usage_in_range (hReferenceIdeal := hReferenceIdeal) (hPre_usage_in_range := hPre_usage_in_range)
    ∧ preserves_Kernel_KernelIdeal
    ∧ algebraic_KernelIdeal_ReferenceIdeal_pre_usage_in_range (hKernelIdeal := hKernelIdeal) (hReferenceIdeal := hReferenceIdeal) (hPre_usage_in_range := hPre_usage_in_range)
-- ==== Pre_usage_in_range.lean ====
abbrev S8x2048x64 : Shape := ⟨3, ![8, 2048, 64]⟩
abbrev S8x1x2048 : Shape := ⟨3, ![8, 1, 2048]⟩
abbrev S8x4x2048 : Shape := ⟨3, ![8, 4, 2048]⟩
abbrev S8x2048x2048 : Shape := ⟨3, ![8, 2048, 2048]⟩
abbrev S8x1x64 : Shape := ⟨3, ![8, 1, 64]⟩
abbrev S8x1x1 : Shape := ⟨3, ![8, 1, 1]⟩
abbrev S8x4x64 : Shape := ⟨3, ![8, 4, 64]⟩
abbrev S8x4x1 : Shape := ⟨3, ![8, 4, 1]⟩
abbrev S8x4x3 : Shape := ⟨3, ![8, 4, 3]⟩
abbrev S_ : Shape := ⟨0, ![]⟩

class Facts : Prop where
  bcast_S_S8x1x2048 : S_.BroadcastsInDim S8x1x2048 (![] : Fin 0 → Fin S8x1x2048.rank)
  bcast_S_S8x1x1 : S_.BroadcastsInDim S8x1x1 (![] : Fin 0 → Fin S8x1x1.rank)
  bcast_S8x1x1_S8x1x2048_0_1_2 : S8x1x1.BroadcastsInDim S8x1x2048 (![0, 1, 2] : Fin 3 → Fin S8x1x2048.rank)

variable [Facts]

def fn_part1 {F : FTy → Type} [FloatOps F] (main_arg8 : FVec F S8x1x1 .f32) (main_v16 : IVec S8x1x2048 1) (main_v17 : FVec F S8x1x1 .f32) : IVec S8x1x2048 1 :=
  let main_v18 : IVec S8x1x1 1 := cmpf .ogt main_arg8 main_v17
  let main_v19 : IVec S8x1x2048 1 := broadcastInDim S8x1x2048 ![0, 1, 2] bcast_S8x1x1_S8x1x2048_0_1_2 main_v18
  let main_v20 : IVec S8x1x2048 1 := andi main_v16 main_v19
  main_v20

def fn {F : FTy → Type} [FloatOps F] (main_arg0 : FVec F S8x2048x64 .f32) (main_arg1 : FVec F S8x1x2048 .f32) (main_arg2 : FVec F S8x4x2048 .f32) (main_arg3 : FVec F S8x2048x2048 .f32) (main_arg4 : FVec F S8x1x2048 .f32) (main_arg5 : FVec F S8x1x64 .f32) (main_arg6 : FVec F S8x1x1 .f32) (main_arg7 : FVec F S8x1x1 .f32) (main_arg8 : FVec F S8x1x1 .f32) (main_arg9 : FVec F S8x1x64 .f32) (main_arg10 : FVec F S8x1x64 .f32) (main_arg11 : FVec F S8x4x64 .f32) (main_arg12 : FVec F S8x4x1 .f32) (main_arg13 : FVec F S8x4x3 .f32) (main_arg14 : FVec F S8x1x2048 .f32) : IVec S8x1x2048 1 :=
  let main_cst : FVec F S_ .f32 := constant S_ .f32 0x02081CEA#32
  let main_v0 : FVec F S8x1x2048 .f32 := broadcastInDim S8x1x2048 ![] bcast_S_S8x1x2048 main_cst
  let main_v1 : IVec S8x1x2048 1 := cmpf .oge main_arg1 main_v0
  let main_cst_0 : FVec F S_ .f32 := constant S_ .f32 0x7F800000#32
  let main_v2 : FVec F S8x1x2048 .f32 := broadcastInDim S8x1x2048 ![] bcast_S_S8x1x2048 main_cst_0
  let main_v3 : IVec S8x1x2048 1 := cmpf .olt main_arg1 main_v2
  let main_v4 : IVec S8x1x2048 1 := andi main_v1 main_v3
  let main_cst_1 : FVec F S_ .f32 := constant S_ .f32 0x7F800000#32
  let main_v5 : FVec F S8x1x1 .f32 := broadcastInDim S8x1x1 ![] bcast_S_S8x1x1 main_cst_1
  let main_v6 : IVec S8x1x1 1 := cmpf .olt main_arg7 main_v5
  let main_v7 : IVec S8x1x2048 1 := broadcastInDim S8x1x2048 ![0, 1, 2] bcast_S8x1x1_S8x1x2048_0_1_2 main_v6
  let main_v8 : IVec S8x1x2048 1 := andi main_v4 main_v7
  let main_cst_2 : FVec F S_ .f32 := constant S_ .f32 0xFF800000#32
  let main_v9 : FVec F S8x1x1 .f32 := broadcastInDim S8x1x1 ![] bcast_S_S8x1x1 main_cst_2
  let main_v10 : IVec S8x1x1 1 := cmpf .ogt main_arg7 main_v9
  let main_v11 : IVec S8x1x2048 1 := broadcastInDim S8x1x2048 ![0, 1, 2] bcast_S8x1x1_S8x1x2048_0_1_2 main_v10
  let main_v12 : IVec S8x1x2048 1 := andi main_v8 main_v11
  let main_cst_3 : FVec F S_ .f32 := constant S_ .f32 0x7F800000#32
  let main_v13 : FVec F S8x1x1 .f32 := broadcastInDim S8x1x1 ![] bcast_S_S8x1x1 main_cst_3
  let main_v14 : IVec S8x1x1 1 := cmpf .olt main_arg8 main_v13
  let main_v15 : IVec S8x1x2048 1 := broadcastInDim S8x1x2048 ![0, 1, 2] bcast_S8x1x1_S8x1x2048_0_1_2 main_v14
  let main_v16 : IVec S8x1x2048 1 := andi main_v12 main_v15
  let main_cst_4 : FVec F S_ .f32 := constant S_ .f32 0xFF800000#32
  let main_v17 : FVec F S8x1x1 .f32 := broadcastInDim S8x1x1 ![] bcast_S_S8x1x1 main_cst_4
  fn_part1 (F := F) main_arg8 main_v16 main_v17
-- ==== Kernel.lean ====
abbrev S8x2048x64 : Shape := ⟨3, ![8, 2048, 64]⟩
abbrev S8x1x2048 : Shape := ⟨3, ![8, 1, 2048]⟩
abbrev S8x4x2048 : Shape := ⟨3, ![8, 4, 2048]⟩
abbrev S8x2048x2048 : Shape := ⟨3, ![8, 2048, 2048]⟩
abbrev S8x1x64 : Shape := ⟨3, ![8, 1, 64]⟩
abbrev S8x1x1 : Shape := ⟨3, ![8, 1, 1]⟩
abbrev S8x4x64 : Shape := ⟨3, ![8, 4, 64]⟩
abbrev S8x4x1 : Shape := ⟨3, ![8, 4, 1]⟩
abbrev S8x4x3 : Shape := ⟨3, ![8, 4, 3]⟩
abbrev S8x2048x1 : Shape := ⟨3, ![8, 2048, 1]⟩
abbrev S1x2048x64 : Shape := ⟨3, ![1, 2048, 64]⟩
abbrev S1x1x2048 : Shape := ⟨3, ![1, 1, 2048]⟩
abbrev S1x2048x1 : Shape := ⟨3, ![1, 2048, 1]⟩
abbrev S1x1x64 : Shape := ⟨3, ![1, 1, 64]⟩
abbrev S1x1x1 : Shape := ⟨3, ![1, 1, 1]⟩
abbrev S1x4x64 : Shape := ⟨3, ![1, 4, 64]⟩
abbrev S1x4x1 : Shape := ⟨3, ![1, 4, 1]⟩
abbrev S1x1024x2048 : Shape := ⟨3, ![1, 1024, 2048]⟩
abbrev S1x4x1024 : Shape := ⟨3, ![1, 4, 1024]⟩
abbrev S1x4x2048 : Shape := ⟨3, ![1, 4, 2048]⟩
abbrev S1x4x3 : Shape := ⟨3, ![1, 4, 3]⟩
abbrev S8x2048 : Shape := ⟨2, ![8, 2048]⟩
abbrev S2048x1 : Shape := ⟨2, ![2048, 1]⟩
abbrev S4x16384 : Shape := ⟨2, ![4, 16384]⟩
abbrev S16384x64 : Shape := ⟨2, ![16384, 64]⟩
abbrev S4x2048 : Shape := ⟨2, ![4, 2048]⟩
abbrev S2048x64 : Shape := ⟨2, ![2048, 64]⟩
abbrev S1x2048 : Shape := ⟨2, ![1, 2048]⟩
abbrev S256x2048 : Shape := ⟨2, ![256, 2048]⟩
abbrev S256x1 : Shape := ⟨2, ![256, 1]⟩
abbrev S1x64 : Shape := ⟨2, ![1, 64]⟩
abbrev S1 : Shape := ⟨1, ![1]⟩
abbrev S1x1 : Shape := ⟨2, ![1, 1]⟩
abbrev S4x64 : Shape := ⟨2, ![4, 64]⟩
abbrev S4 : Shape := ⟨1, ![4]⟩
abbrev S4x1 : Shape := ⟨2, ![4, 1]⟩
abbrev S1024x1 : Shape := ⟨2, ![1024, 1]⟩
abbrev S1024x2048 : Shape := ⟨2, ![1024, 2048]⟩
abbrev S4x1024 : Shape := ⟨2, ![4, 1024]⟩
abbrev S4x3 : Shape := ⟨2, ![4, 3]⟩
abbrev S1x8x2048 : Shape := ⟨3, ![1, 8, 2048]⟩

abbrev nBuf : Space → Nat
  | .hbm => 22
  | .vmem => 54
  | .smem => 0
  | _ => 0

abbrev bufTy : (tb : Table) → Fin (tcTables nBuf tb) → BufTy
  | .hbm, ⟨0, _⟩ => ⟨S8x2048x64, .f32⟩
  | .hbm, ⟨1, _⟩ => ⟨S8x1x2048, .f32⟩
  | .hbm, ⟨2, _⟩ => ⟨S8x4x2048, .f32⟩
  | .hbm, ⟨3, _⟩ => ⟨S8x2048x2048, .f32⟩
  | .hbm, ⟨4, _⟩ => ⟨S8x1x2048, .f32⟩
  | .hbm, ⟨5, _⟩ => ⟨S8x1x64, .f32⟩
  | .hbm, ⟨6, _⟩ => ⟨S8x1x1, .f32⟩
  | .hbm, ⟨7, _⟩ => ⟨S8x1x1, .f32⟩
  | .hbm, ⟨8, _⟩ => ⟨S8x1x1, .f32⟩
  | .hbm, ⟨9, _⟩ => ⟨S8x1x64, .f32⟩
  | .hbm, ⟨10, _⟩ => ⟨S8x1x64, .f32⟩
  | .hbm, ⟨11, _⟩ => ⟨S8x4x64, .f32⟩
  | .hbm, ⟨12, _⟩ => ⟨S8x4x1, .f32⟩
  | .hbm, ⟨13, _⟩ => ⟨S8x4x3, .f32⟩
  | .hbm, ⟨14, _⟩ => ⟨S8x1x2048, .f32⟩
  | .hbm, ⟨15, _⟩ => ⟨S8x2048x1, .f32⟩
  | .hbm, ⟨16, _⟩ => ⟨S8x2048x2048, .f32⟩
  | .hbm, ⟨17, _⟩ => ⟨S8x2048x64, .f32⟩
  | .hbm, ⟨18, _⟩ => ⟨S8x4x2048, .f32⟩
  | .hbm, ⟨19, _⟩ => ⟨S8x4x64, .f32⟩
  | .hbm, ⟨20, _⟩ => ⟨S8x1x2048, .f32⟩
  | .hbm, ⟨21, _⟩ => ⟨S8x1x2048, .f32⟩
  | .local _ .vmem, ⟨0, _⟩ => ⟨S1x2048x64, .f32⟩
  | .local _ .vmem, ⟨1, _⟩ => ⟨S1x2048x64, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x1, .f32⟩
  | .local _ .vmem, ⟨5, _⟩ => ⟨S1x2048x1, .f32⟩
  | .local _ .vmem, ⟨6, _⟩ => ⟨S1x1x64, .f32⟩
  | .local _ .vmem, ⟨7, _⟩ => ⟨S1x1x64, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x64, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S1x4x64, .f32⟩
  | .local _ .vmem, ⟨19, _⟩ => ⟨S1x4x64, .f32⟩
  | .local _ .vmem, ⟨20, _⟩ => ⟨S1x4x1, .f32⟩
  | .local _ .vmem, ⟨21, _⟩ => ⟨S1x4x1, .f32⟩
  | .local _ .vmem, ⟨22, _⟩ => ⟨S1x1024x2048, .f32⟩
  | .local _ .vmem, ⟨23, _⟩ => ⟨S1x1024x2048, .f32⟩
  | .local _ .vmem, ⟨24, _⟩ => ⟨S1x4x1024, .f32⟩
  | .local _ .vmem, ⟨25, _⟩ => ⟨S1x4x1024, .f32⟩
  | .local _ .vmem, ⟨26, _⟩ => ⟨S1x1x2048, .f32⟩
  | .local _ .vmem, ⟨27, _⟩ => ⟨S1x1x2048, .f32⟩
  | .local _ .vmem, ⟨28, _⟩ => ⟨S1x4x2048, .f32⟩
  | .local _ .vmem, ⟨29, _⟩ => ⟨S1x4x2048, .f32⟩
  | .local _ .vmem, ⟨30, _⟩ => ⟨S1x4x3, .f32⟩
  | .local _ .vmem, ⟨31, _⟩ => ⟨S1x4x3, .f32⟩
  | .local _ .vmem, ⟨32, _⟩ => ⟨S1x1x2048, .f32⟩
  | .local _ .vmem, ⟨33, _⟩ => ⟨S1x1x2048, .f32⟩
  | .local _ .vmem, ⟨34, _⟩ => ⟨S1x1x2048, .f32⟩
  | .local _ .vmem, ⟨35, _⟩ => ⟨S1x1x2048, .f32⟩
  | .local _ .vmem, ⟨36, _⟩ => ⟨S8x1x2048, .f32⟩
  | .local _ .vmem, ⟨37, _⟩ => ⟨S1x1024x2048, .f32⟩
  | .local _ .vmem, ⟨38, _⟩ => ⟨S1x1024x2048, .f32⟩
  | .local _ .vmem, ⟨39, _⟩ => ⟨S1x2048x64, .f32⟩
  | .local _ .vmem, ⟨40, _⟩ => ⟨S1x2048x64, .f32⟩
  | .local _ .vmem, ⟨41, _⟩ => ⟨S1x4x2048, .f32⟩
  | .local _ .vmem, ⟨42, _⟩ => ⟨S1x4x2048, .f32⟩
  | .local _ .vmem, ⟨43, _⟩ => ⟨S1x4x64, .f32⟩
  | .local _ .vmem, ⟨44, _⟩ => ⟨S1x4x64, .f32⟩
  | .local _ .vmem, ⟨45, _⟩ => ⟨S1x1x2048, .f32⟩
  | .local _ .vmem, ⟨46, _⟩ => ⟨S1x1x2048, .f32⟩
  | .local _ .vmem, ⟨47, _⟩ => ⟨S8x1x2048, .f32⟩
  | .local _ .vmem, ⟨48, _⟩ => ⟨S8x2048, .f32⟩
  | .local _ .vmem, ⟨49, _⟩ => ⟨S2048x1, .f32⟩
  | .local _ .vmem, ⟨50, _⟩ => ⟨S4x16384, .f32⟩
  | .local _ .vmem, ⟨51, _⟩ => ⟨S16384x64, .f32⟩
  | .local _ .vmem, ⟨52, _⟩ => ⟨S4x2048, .f32⟩
  | .local _ .vmem, ⟨53, _⟩ => ⟨S4x2048, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_v1_3 : Ref sig .tc := ⟨.hbm, 19, rfl⟩
abbrev main_v1_4 : Ref sig .tc := ⟨.hbm, 20, rfl⟩
abbrev main_v1_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch2 : Ref sig .tc := ⟨.vmem, 50, rfl⟩
abbrev cc0_scratch3 : Ref sig .tc := ⟨.vmem, 51, rfl⟩
abbrev cc0_scratch4 : Ref sig .tc := ⟨.vmem, 52, rfl⟩
abbrev cc0_scratch5 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let v255 : Index := Scalar.indexCast v1
  let c0_84 : Index := 0#32
  ![v255.toNat, 0]
def k0_off2 (i : grid0.Coords) : Fin 2 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2048_i32 : BitVec 32 := 2048#32
  let v277 : BitVec 32 := Scalar.muli v1 c2048_i32
  let v278 : Index := Scalar.indexCast v277
  let c0_95 : Index := 0#32
  ![v278.toNat, 0]
def k0_off3 (i : grid0.Coords) : Fin 2 → Nat :=
  let c0_109 : Index := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2048_i32_108 : BitVec 32 := 2048#32
  let v311 : BitVec 32 := Scalar.muli v1 c2048_i32_108
  let v312 : Index := Scalar.indexCast v311
  ![0, v312.toNat]
def k0_cond2 (i : grid0.Coords) : BitVec 1 :=
  let arg1 : BitVec 32 := BitVec.ofNat 32 (i 1).val
  let c0_i32_0 : BitVec 32 := 0#32
  let v5 : BitVec 1 := Scalar.cmpi .eq arg1 c0_i32_0
  let v6 : BitVec 32 := Scalar.extui v5
  let c0_i32_1 : BitVec 32 := 0#32
  let v7 : BitVec 1 := Scalar.cmpi .ne v6 c0_i32_1
  v7

def k0_off4 (i : grid0.Coords) : Fin 2 → Nat :=
  let arg0 : BitVec 32 := BitVec.ofNat 32 (i 0).val
  let v54 : Index := Scalar.indexCast arg0
  let c0_28 : Index := 0#32
  ![v54.toNat, 0]
def k0_off5 (i : grid0.Coords) : Fin 2 → Nat :=
  let arg0 : BitVec 32 := BitVec.ofNat 32 (i 0).val
  let v8 : Index := Scalar.indexCast arg0
  let c0 : Index := 0#32
  ![v8.toNat, 0]
def k0_mult1 (i : grid0.Coords) : BitVec 32 :=
  let arg1 : BitVec 32 := BitVec.ofNat 32 (i 1).val
  let c1024_i32 : BitVec 32 := 1024#32
  let v12 : BitVec 32 := Scalar.muli arg1 c1024_i32
  v12
def k0_off6 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_5 : Index := 0#32
  ![v14.toNat, 0]
def k0_off7 (i : grid0.Coords) : Fin 2 → Nat :=
  let c0_16 : Index := 0#32
  let arg1 : BitVec 32 := BitVec.ofNat 32 (i 1).val
  let c1024_i32 : BitVec 32 := 1024#32
  let v12 : BitVec 32 := Scalar.muli arg1 c1024_i32
  let v13 : BitVec 32 := v12
  let v34 : Index := Scalar.indexCast v13
  ![0, v34.toNat]
def k0_cond3 (i : grid0.Coords) : BitVec 1 :=
  let arg1 : BitVec 32 := BitVec.ofNat 32 (i 1).val
  let c1_i32 : BitVec 32 := 1#32
  let v46 : BitVec 1 := Scalar.cmpi .eq arg1 c1_i32
  let v47 : BitVec 32 := Scalar.extui v46
  let c0_i32_25 : BitVec 32 := 0#32
  let v48 : BitVec 1 := Scalar.cmpi .ne v47 c0_i32_25
  v48

def k0_off8 (i : grid0.Coords) : Fin 2 → Nat :=
  let c0_31 : Index := 0#32
  let arg0 : BitVec 32 := BitVec.ofNat 32 (i 0).val
  let c2048_i32 : BitVec 32 := 2048#32
  let v56 : BitVec 32 := Scalar.muli arg0 c2048_i32
  let v57 : Index := Scalar.indexCast v56
  ![0, v57.toNat]
def k0_off9 (i : grid0.Coords) : Fin 2 → Nat :=
  let arg0 : BitVec 32 := BitVec.ofNat 32 (i 0).val
  let c2048_i32_39 : BitVec 32 := 2048#32
  let v75 : BitVec 32 := Scalar.muli arg0 c2048_i32_39
  let v76 : Index := Scalar.indexCast v75
  let c0_40 : Index := 0#32
  ![v76.toNat, 0]
def k0_cond4 (i : grid0.Coords) : BitVec 1 :=
  let arg0 : BitVec 32 := BitVec.ofNat 32 (i 0).val
  let c7_i32 : BitVec 32 := 7#32
  let v49 : BitVec 1 := Scalar.cmpi .eq arg0 c7_i32
  let arg1 : BitVec 32 := BitVec.ofNat 32 (i 1).val
  let c1_i32_26 : BitVec 32 := 1#32
  let v50 : BitVec 1 := Scalar.cmpi .eq arg1 c1_i32_26
  let v51 : BitVec 1 := Scalar.andi v49 v50
  let v52 : BitVec 32 := Scalar.extui v51
  let c0_i32_27 : BitVec 32 := 0#32
  let v53 : BitVec 1 := Scalar.cmpi .ne v52 c0_i32_27
  v53

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let v2 : BitVec 32 := Scalar.minsi v1 c7_i32
  let c0_i32 : BitVec 32 := 0#32
  let c0_i32_0 : BitVec 32 := 0#32
  let c0_i32_1 : BitVec 32 := 0#32
  ![v2.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S8x1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1024x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2048x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x4x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S1x1x2048 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 1 → Memref sig .tc .vmem S8x1x2048 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]
-- ==== ReferenceIdeal.lean ====
abbrev S8x2048x64 : Shape := ⟨3, ![8, 2048, 64]⟩
abbrev S8x1x2048 : Shape := ⟨3, ![8, 1, 2048]⟩
abbrev S8x4x2048 : Shape := ⟨3, ![8, 4, 2048]⟩
abbrev S8x2048x2048 : Shape := ⟨3, ![8, 2048, 2048]⟩
abbrev S8x1x64 : Shape := ⟨3, ![8, 1, 64]⟩
abbrev S8x1x1 : Shape := ⟨3, ![8, 1, 1]⟩
abbrev S8x4x64 : Shape := ⟨3, ![8, 4, 64]⟩
abbrev S8x4x1 : Shape := ⟨3, ![8, 4, 1]⟩
abbrev S8x4x3 : Shape := ⟨3, ![8, 4, 3]⟩
abbrev S_ : Shape := ⟨0, ![]⟩
abbrev S8x1 : Shape := ⟨2, ![8, 1]⟩
abbrev S2048x8x1 : Shape := ⟨3, ![2048, 8, 1]⟩
abbrev S1x8x1 : Shape := ⟨3, ![1, 8, 1]⟩
abbrev S8x2048x1 : Shape := ⟨3, ![8, 2048, 1]⟩
abbrev S1 : Shape := ⟨1, ![1]⟩
abbrev S1x1x1 : Shape := ⟨3, ![1, 1, 1]⟩
abbrev S8x2048 : Shape := ⟨2, ![8, 2048]⟩
abbrev S8x4 : Shape := ⟨2, ![8, 4]⟩

abbrev nBuf : Space → Nat
  | .hbm => 201
  | .vmem => 0
  | .smem => 0
  | _ => 0

abbrev hbmTy0_0 (i : Nat) : BufTy := match i % 128 with
  | 0 => ⟨S8x2048x64, .f32⟩
  | 1 => ⟨S8x1x2048, .f32⟩
  | 2 => ⟨S8x4x2048, .f32⟩
  | 3 => ⟨S8x2048x2048, .f32⟩
  | 4 => ⟨S8x1x2048, .f32⟩
  | 5 => ⟨S8x1x64, .f32⟩
  | 6 => ⟨S8x1x1, .f32⟩
  | 7 => ⟨S8x1x1, .f32⟩
  | 8 => ⟨S8x1x1, .f32⟩
  | 9 => ⟨S8x1x64, .f32⟩
  | 10 => ⟨S8x1x64, .f32⟩
  | 11 => ⟨S8x4x64, .f32⟩
  | 12 => ⟨S8x4x1, .f32⟩
  | 13 => ⟨S8x4x3, .f32⟩
  | 14 => ⟨S8x1x2048, .f32⟩
  | 15 => ⟨S8x1x2048, .f32⟩
  | 16 => ⟨S8x1x2048, .i32⟩
  | 17 => ⟨S8x1x2048, .f32⟩
  | 18 => ⟨S8x1x2048, .i32⟩
  | 19 => ⟨S8x1x2048, .i32⟩
  | 20 => ⟨S8x1x2048, .i32⟩
  | 21 => ⟨S8x1x2048, .i32⟩
  | 22 => ⟨S_, .f32⟩
  | 23 => ⟨S8x1, .f32⟩
  | 24 => ⟨S2048x8x1, .f32⟩
  | 25 => ⟨S_, .f32⟩
  | 26 => ⟨S2048x8x1, .f32⟩
  | 27 => ⟨S_, .i32⟩
  | 28 => ⟨S2048x8x1, .f32⟩
  | 29 => ⟨S_, .i32⟩
  | 30 => ⟨S8x1, .f32⟩
  | 31 => ⟨S2048x8x1, .f32⟩
  | 32 => ⟨S_, .i32⟩
  | 33 => ⟨S_, .i1⟩
  | 34 => ⟨S_, .i32⟩
  | 35 => ⟨S_, .i32⟩
  | 36 => ⟨S1x8x1, .f32⟩
  | 37 => ⟨S8x1, .f32⟩
  | 38 => ⟨S8x1, .f32⟩
  | 39 => ⟨S1x8x1, .f32⟩
  | 40 => ⟨S_, .i32⟩
  | 41 => ⟨S_, .i32⟩
  | 42 => ⟨S2048x8x1, .f32⟩
  | 43 => ⟨S_, .i32⟩
  | 44 => ⟨S_, .i32⟩
  | 45 => ⟨S8x1x2048, .f32⟩
  | 46 => ⟨S8x1x2048, .f32⟩
  | 47 => ⟨S_, .f32⟩
  | 48 => ⟨S8x1x2048, .f32⟩
  | 49 => ⟨S8x1x2048, .f32⟩
  | 50 => ⟨S8x1x2048, .f32⟩
  | 51 => ⟨S_, .i32⟩
  | 52 => ⟨S8x1x2048, .i32⟩
  | 53 => ⟨S8x1x2048, .i1⟩
  | 54 => ⟨S_, .i32⟩
  | 55 => ⟨S8x1x2048, .i32⟩
  | 56 => ⟨S8x1x2048, .i32⟩
  | 57 => ⟨S8x1x2048, .i32⟩
  | 58 => ⟨S8x2048x1, .i32⟩
  | 59 => ⟨S1, .i32⟩
  | 60 => ⟨S_, .i32⟩
  | 61 => ⟨S8x2048x1, .i32⟩
  | 62 => ⟨S8x2048x1, .i1⟩
  | 63 => ⟨S1x1x1, .i32⟩
  | 64 => ⟨S8x2048x1, .i32⟩
  | 65 => ⟨S8x2048x1, .i1⟩
  | 66 => ⟨S8x2048x1, .i1⟩
  | 67 => ⟨S_, .i1⟩
  | 68 => ⟨S8x2048, .i1⟩
  | 69 => ⟨S8x1x2048, .f32⟩
  | 70 => ⟨S8x1x2048, .i1⟩
  | 71 => ⟨S_, .f32⟩
  | 72 => ⟨S8x1x2048, .f32⟩
  | 73 => ⟨S8x1x2048, .f32⟩
  | 74 => ⟨S8x1x2048, .f32⟩
  | 75 => ⟨S8x1x64, .f32⟩
  | 76 => ⟨S_, .f32⟩
  | 77 => ⟨S8x1, .f32⟩
  | 78 => ⟨S8x1, .f32⟩
  | 79 => ⟨S8x2048x64, .f32⟩
  | 80 => ⟨S_, .f32⟩
  | 81 => ⟨S8x2048, .f32⟩
  | 82 => ⟨S8x2048, .f32⟩
  | 83 => ⟨S8x1x1, .f32⟩
  | 84 => ⟨S8x1x2048, .f32⟩
  | 85 => ⟨S8x1x2048, .f32⟩
  | 86 => ⟨S8x1x2048, .f32⟩
  | 87 => ⟨S_, .f32⟩
  | 88 => ⟨S8x1x2048, .f32⟩
  | 89 => ⟨S8x1x2048, .f32⟩
  | 90 => ⟨S8x1x2048, .f32⟩
  | 91 => ⟨S_, .f32⟩
  | 92 => ⟨S8x1, .f32⟩
  | 93 => ⟨S_, .f32⟩
  | 94 => ⟨S8x1, .f32⟩
  | 95 => ⟨S8x1, .f32⟩
  | 96 => ⟨S8x1x1, .f32⟩
  | 97 => ⟨S8x1x2048, .f32⟩
  | 98 => ⟨S8x1x2048, .f32⟩
  | 99 => ⟨S8x1x2048, .f32⟩
  | 100 => ⟨S_, .f32⟩
  | 101 => ⟨S8x1, .f32⟩
  | 102 => ⟨S8x1x1, .f32⟩
  | 103 => ⟨S8x1x2048, .f32⟩
  | 104 => ⟨S8x1x2048, .f32⟩
  | 105 => ⟨S8x1x2048, .f32⟩
  | 106 => ⟨S8x1x2048, .f32⟩
  | 107 => ⟨S8x1x2048, .f32⟩
  | 108 => ⟨S8x1x2048, .f32⟩
  | 109 => ⟨S8x1x2048, .f32⟩
  | 110 => ⟨S8x1x2048, .f32⟩
  | 111 => ⟨S8x1x2048, .f32⟩
  | 112 => ⟨S8x1x2048, .f32⟩
  | 113 => ⟨S8x2048x1, .f32⟩
  | 114 => ⟨S8x2048x64, .f32⟩
  | 115 => ⟨S_, .f32⟩
  | 116 => ⟨S8x2048x64, .f32⟩
  | 117 => ⟨S8x2048x64, .f32⟩
  | 118 => ⟨S8x2048x64, .f32⟩
  | 119 => ⟨S8x2048x64, .f32⟩
  | 120 => ⟨S8x2048x64, .f32⟩
  | 121 => ⟨S8x2048x2048, .f32⟩
  | 122 => ⟨S8x2048x2048, .f32⟩
  | 123 => ⟨S8x2048x2048, .f32⟩
  | 124 => ⟨S_, .f32⟩
  | 125 => ⟨S8x2048x2048, .f32⟩
  | 126 => ⟨S8x2048x2048, .f32⟩
  | 127 => ⟨S8x2048x2048, .f32⟩
  | _ => ⟨S8x2048x64, .f32⟩

abbrev hbmTy0_1 (i : Nat) : BufTy := match i % 128 with
  | 0 => ⟨S8x2048x2048, .f32⟩
  | 1 => ⟨S8x2048x2048, .f32⟩
  | 2 => ⟨S_, .f32⟩
  | 3 => ⟨S_, .f32⟩
  | 4 => ⟨S_, .f32⟩
  | 5 => ⟨S_, .f32⟩
  | 6 => ⟨S8x1x2048, .f32⟩
  | 7 => ⟨S8x1x2048, .f32⟩
  | 8 => ⟨S8x1x2048, .f32⟩
  | 9 => ⟨S8x2048x2048, .f32⟩
  | 10 => ⟨S8x4x2048, .f32⟩
  | 11 => ⟨S8x4x2048, .f32⟩
  | 12 => ⟨S8x4x2048, .f32⟩
  | 13 => ⟨S8x4x64, .f32⟩
  | 14 => ⟨S_, .f32⟩
  | 15 => ⟨S8x4, .f32⟩
  | 16 => ⟨S8x4, .f32⟩
  | 17 => ⟨S8x2048x64, .f32⟩
  | 18 => ⟨S_, .f32⟩
  | 19 => ⟨S8x2048, .f32⟩
  | 20 => ⟨S8x2048, .f32⟩
  | 21 => ⟨S8x4x1, .f32⟩
  | 22 => ⟨S8x1x2048, .f32⟩
  | 23 => ⟨S8x4x2048, .f32⟩
  | 24 => ⟨S8x4x2048, .f32⟩
  | 25 => ⟨S8x4x2048, .f32⟩
  | 26 => ⟨S_, .f32⟩
  | 27 => ⟨S8x4x2048, .f32⟩
  | 28 => ⟨S8x4x2048, .f32⟩
  | 29 => ⟨S8x4x2048, .f32⟩
  | 30 => ⟨S_, .f32⟩
  | 31 => ⟨S8x4, .f32⟩
  | 32 => ⟨S_, .f32⟩
  | 33 => ⟨S8x4, .f32⟩
  | 34 => ⟨S8x4, .f32⟩
  | 35 => ⟨S8x4x1, .f32⟩
  | 36 => ⟨S8x4x2048, .f32⟩
  | 37 => ⟨S8x4x2048, .f32⟩
  | 38 => ⟨S8x4x2048, .f32⟩
  | 39 => ⟨S_, .f32⟩
  | 40 => ⟨S8x4, .f32⟩
  | 41 => ⟨S8x4x1, .f32⟩
  | 42 => ⟨S8x4x2048, .f32⟩
  | 43 => ⟨S8x4x2048, .f32⟩
  | 44 => ⟨S8x4x2048, .f32⟩
  | 45 => ⟨S8x4x2048, .f32⟩
  | 46 => ⟨S8x4x1, .f32⟩
  | 47 => ⟨S8x4x1, .f32⟩
  | 48 => ⟨S8x4x1, .f32⟩
  | 49 => ⟨S8x4x2048, .f32⟩
  | 50 => ⟨S8x4x2048, .f32⟩
  | 51 => ⟨S8x4x2048, .f32⟩
  | 52 => ⟨S8x4x2048, .f32⟩
  | 53 => ⟨S8x4x2048, .f32⟩
  | 54 => ⟨S8x4x2048, .f32⟩
  | 55 => ⟨S8x4x2048, .f32⟩
  | 56 => ⟨S8x4x2048, .f32⟩
  | 57 => ⟨S8x4x64, .f32⟩
  | 58 => ⟨S8x1x2048, .f32⟩
  | 59 => ⟨S8x1x2048, .f32⟩
  | 60 => ⟨S8x1x2048, .f32⟩
  | 61 => ⟨S8x1x2048, .f32⟩
  | 62 => ⟨S8x1x2048, .f32⟩
  | 63 => ⟨S8x1x2048, .f32⟩
  | 64 => ⟨S8x1x2048, .f32⟩
  | 65 => ⟨S8x1x2048, .f32⟩
  | 66 => ⟨S_, .f32⟩
  | 67 => ⟨S8x1x2048, .f32⟩
  | 68 => ⟨S8x1x2048, .f32⟩
  | 69 => ⟨S8x1x2048, .f32⟩
  | 70 => ⟨S8x1x2048, .f32⟩
  | 71 => ⟨S8x1x2048, .f32⟩
  | 72 => ⟨S8x1x2048, .f32⟩
  | _ => ⟨S8x2048x64, .f32⟩

abbrev hbmTy (i : Nat) : BufTy := match i / 128 with
  | 0 => hbmTy0_0 i
  | 1 => hbmTy0_1 i
  | _ => ⟨S8x2048x64, .f32⟩

abbrev bufTy : (tb : Table) → Fin (tcTables nBuf tb) → BufTy
  | .hbm, ⟨i, _⟩ => hbmTy i
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call1_v0 : Ref sig .tc := ⟨.hbm, 16, rfl⟩
abbrev main_call1_v1_0 : Ref sig .tc := ⟨.hbm, 17, rfl⟩
abbrev main_v1 : Ref sig .tc := ⟨.hbm, 18, rfl⟩
abbrev main_call2_v0 : Ref sig .tc := ⟨.hbm, 19, rfl⟩
abbrev main_call2_v1_0 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_c : Ref sig .tc := ⟨.hbm, 27, rfl⟩
abbrev main_v6_0 : Ref sig .tc := ⟨.hbm, 28, rfl⟩
abbrev main_v6_1 : Ref sig .tc := ⟨.hbm, 29, rfl⟩
abbrev main_v6_2 : Ref sig .tc := ⟨.hbm, 30, rfl⟩
abbrev main_v6_3 : Ref sig .tc := ⟨.hbm, 31, rfl⟩
abbrev main_while0c_c_18 : Ref sig .tc := ⟨.hbm, 32, rfl⟩
abbrev main_while0c_v115 : Ref sig .tc := ⟨.hbm, 33, rfl⟩
abbrev main_while0b_call3_c : Ref sig .tc := ⟨.hbm, 34, rfl⟩
abbrev main_while0b_call3_c_0 : Ref sig .tc := ⟨.hbm, 35, rfl⟩
abbrev main_while0b_call3_v0 : Ref sig .tc := ⟨.hbm, 36, rfl⟩
abbrev main_while0b_v115 : Ref sig .tc := ⟨.hbm, 37, rfl⟩
abbrev main_while0b_v116 : Ref sig .tc := ⟨.hbm, 38, rfl⟩
abbrev main_while0b_call4_v0 : Ref sig .tc := ⟨.hbm, 39, rfl⟩
abbrev main_while0b_call4_c : Ref sig .tc := ⟨.hbm, 40, rfl⟩
abbrev main_while0b_call4_c_0 : Ref sig .tc := ⟨.hbm, 41, rfl⟩
abbrev main_while0b_v117 : Ref sig .tc := ⟨.hbm, 42, rfl⟩
abbrev main_while0b_c_18 : Ref sig .tc := ⟨.hbm, 43, rfl⟩
abbrev main_while0b_v118 : Ref sig .tc := ⟨.hbm, 44, rfl⟩
abbrev main_v7 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_call5_c : Ref sig .tc := ⟨.hbm, 51, rfl⟩
abbrev main_call5_v0 : Ref sig .tc := ⟨.hbm, 52, rfl⟩
abbrev main_call5_v1 : Ref sig .tc := ⟨.hbm, 53, rfl⟩
abbrev main_call5_c_0 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_v5 : Ref sig .tc := ⟨.hbm, 58, rfl⟩
abbrev main_call5_c_1 : Ref sig .tc := ⟨.hbm, 59, rfl⟩
abbrev main_call5_c_2 : Ref sig .tc := ⟨.hbm, 60, rfl⟩
abbrev main_call5_v6 : Ref sig .tc := ⟨.hbm, 61, rfl⟩
abbrev main_call5_v7 : Ref sig .tc := ⟨.hbm, 62, rfl⟩
abbrev main_call5_v8 : Ref sig .tc := ⟨.hbm, 63, rfl⟩
abbrev main_call5_v9 : Ref sig .tc := ⟨.hbm, 64, rfl⟩
abbrev main_call5_v10 : Ref sig .tc := ⟨.hbm, 65, rfl⟩
abbrev main_call5_v11 : Ref sig .tc := ⟨.hbm, 66, rfl⟩
abbrev main_call5_c_3 : Ref sig .tc := ⟨.hbm, 67, rfl⟩
abbrev main_call5_v12 : Ref sig .tc := ⟨.hbm, 68, rfl⟩
abbrev main_call5_v13 : Ref sig .tc := ⟨.hbm, 69, rfl⟩
abbrev main_call5_v14 : Ref sig .tc := ⟨.hbm, 70, rfl⟩
abbrev main_call5_cst : Ref sig .tc := ⟨.hbm, 71, rfl⟩
abbrev main_call5_v15 : Ref sig .tc := ⟨.hbm, 72, rfl⟩
abbrev main_v12 : Ref sig .tc := ⟨.hbm, 73, rfl⟩
abbrev main_v13 : Ref sig .tc := ⟨.hbm, 74, rfl⟩
abbrev main_call6_v0 : Ref sig .tc := ⟨.hbm, 75, rfl⟩
abbrev main_call6_cst : Ref sig .tc := ⟨.hbm, 76, rfl⟩
abbrev main_call6_v1 : Ref sig .tc := ⟨.hbm, 77, rfl⟩
abbrev main_v14 : Ref sig .tc := ⟨.hbm, 78, rfl⟩
abbrev main_call7_v0 : Ref sig .tc := ⟨.hbm, 79, rfl⟩
abbrev main_call7_cst : Ref sig .tc := ⟨.hbm, 80, rfl⟩
abbrev main_call7_v1 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_cst_2 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_cst_3 : Ref sig .tc := ⟨.hbm, 91, rfl⟩
abbrev main_v23 : Ref sig .tc := ⟨.hbm, 92, rfl⟩
abbrev main_cst_4 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_cst_5 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_cst_6 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_cst_7 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_8 : Ref sig .tc := ⟨.hbm, 130, rfl⟩
abbrev main_v57 : Ref sig .tc := ⟨.hbm, 131, rfl⟩
abbrev main_cst_9 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_call8_v0 : Ref sig .tc := ⟨.hbm, 141, rfl⟩
abbrev main_call8_cst : Ref sig .tc := ⟨.hbm, 142, rfl⟩
abbrev main_call8_v1 : Ref sig .tc := ⟨.hbm, 143, rfl⟩
abbrev main_v66 : Ref sig .tc := ⟨.hbm, 144, rfl⟩
abbrev main_call9_v0 : Ref sig .tc := ⟨.hbm, 145, rfl⟩
abbrev main_call9_cst : Ref sig .tc := ⟨.hbm, 146, rfl⟩
abbrev main_call9_v1 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_cst_10 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_cst_11 : Ref sig .tc := ⟨.hbm, 158, rfl⟩
abbrev main_v76 : Ref sig .tc := ⟨.hbm, 159, rfl⟩
abbrev main_cst_12 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_cst_13 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_cst_14 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩

abbrev nD : Nat := 1
abbrev τ : Topo := Topo.v7x

variable {F : FTy → Type} [FloatOps F]

abbrev main_while0_count : Scf.Loop 32 := ⟨0#32, 2048#32, 1#32⟩
-- ==== Proof.KernelIdeal.Vals.lean ====
/- Loads and stores read as windows, and the values the body writes, from the windows it reads. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load at a unit-stride rectangle reads a window of what the view reads. -/
theorem readAt_unit_self {sig : RefSig} {κ : Kind} {sp : Space} {s : Shape} {e : EltTy} {Val : EltTy → Type} (v : View sig κ sp s e)
    (f : v.ty.Contents Val) {off size : Fin s.rank → ℕ} (inb : ∀ a, off a + size a ≤ s.size a) :
    v.readAt Val (Rect.unit off size inb).toLoadRect f = VecWindow.window (v.read Val f) off size inb :=
  View.readAt_unit v f inb rfl inb

/-- An unmasked store at a unit-stride rectangle leaves the payload put over what was there. -/
theorem read_writes_put_self {sig : RefSig} {κ : Kind} {sp : Space} {s : Shape} {e : EltTy} {Val : EltTy → Type} (v : View sig κ sp s e)
    (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A load stated over the pieces alone reads a window of what the view reads after the pieces. -/
theorem readCov_unit_self {sig : RefSig} {κ : Kind} {sp : Space} {s : Shape} {e : EltTy} {Val : EltTy → Type} [∀ e, Nonempty (Val e)]
    (v : View sig κ sp s e) {off size : Fin s.rank → ℕ} (inb : ∀ a, off a + size a ≤ s.size a) (L : List (View.Piece Val s e)) :
    v.readCov L (Rect.unit off size inb).toLoadRect = VecWindow.window (v.read Val (v.writes Val v.junk L)) off size inb :=
  readAt_unit_self v _ inb

/-- The window of a shape's own sizes is the whole of it. -/
theorem window_whole {α : Type} {s : Shape} (x : s.Idx → α) {off : Fin s.rank → ℕ} (inb : ∀ a, off a + s.size a ≤ s.size a) :
    VecWindow.window x off s.size inb = x :=
  funext fun y => congrArg x (Rect.emb_unit_full inb y)

/-- What is put over a whole shape is what is there. -/
theorem put_whole {α : Type} {s : Shape} (x : s.Idx → α) {off : Fin s.rank → ℕ} (h0 : ∀ a, off a = 0) (w : ((a : Fin s.rank) → Fin (s.size a)) → α) :
    VecWindow.put x off s.size w = w := by
  have inb : ∀ a, off a + s.size a ≤ s.size a := fun a => by rw [h0 a]; omega
  have e := window_whole (VecWindow.put x off s.size w) inb
  rw [VecWindow.window_put_same] at e
  exact e.symm

/-- The whole window of shape `S1x2048x64`. -/
theorem window_S1x2048x64 {α : Type} (x : S1x2048x64.Idx → α) (inb) : VecWindow.window x ![0, 0, 0] ![1, 2048, 64] inb = x := window_whole x inb

/-- The whole of shape `S1x2048x64` put. -/
theorem put_S1x2048x64 {α : Type} (x w : S1x2048x64.Idx → α) : VecWindow.put x ![0, 0, 0] ![1, 2048, 64] w = w :=
  put_whole x (fun a => by fin_cases a <;> rfl) w

/-- The whole window of shape `S1x1x2048`. -/
theorem window_S1x1x2048 {α : Type} (x : S1x1x2048.Idx → α) (inb) : VecWindow.window x ![0, 0, 0] ![1, 1, 2048] inb = x := window_whole x inb

/-- The whole of shape `S1x1x2048` put. -/
theorem put_S1x1x2048 {α : Type} (x w : S1x1x2048.Idx → α) : VecWindow.put x ![0, 0, 0] ![1, 1, 2048] w = w :=
  put_whole x (fun a => by fin_cases a <;> rfl) w

/-- The whole window of shape `S1x2048x1`. -/
theorem window_S1x2048x1 {α : Type} (x : S1x2048x1.Idx → α) (inb) : VecWindow.window x ![0, 0, 0] ![1, 2048, 1] inb = x := window_whole x inb

/-- The whole of shape `S1x2048x1` put. -/
theorem put_S1x2048x1 {α : Type} (x w : S1x2048x1.Idx → α) : VecWindow.put x ![0, 0, 0] ![1, 2048, 1] w = w :=
  put_whole x (fun a => by fin_cases a <;> rfl) w

/-- The whole window of shape `S1x1x64`. -/
theorem window_S1x1x64 {α : Type} (x : S1x1x64.Idx → α) (inb) : VecWindow.window x ![0, 0, 0] ![1, 1, 64] inb = x := window_whole x inb

/-- The whole of shape `S1x1x64` put. -/
theorem put_S1x1x64 {α : Type} (x w : S1x1x64.Idx → α) : VecWindow.put x ![0, 0, 0] ![1, 1, 64] w = w :=
  put_whole x (fun a => by fin_cases a <;> rfl) w

/-- The whole window of shape `S1x1x1`. -/
theorem window_S1x1x1 {α : Type} (x : S1x1x1.Idx → α) (inb) : VecWindow.window x ![0, 0, 0] ![1, 1, 1] inb = x := window_whole x inb

/-- The whole of shape `S1x1x1` put. -/
theorem put_S1x1x1 {α : Type} (x w : S1x1x1.Idx → α) : VecWindow.put x ![0, 0, 0] ![1, 1, 1] w = w :=
  put_whole x (fun a => by fin_cases a <;> rfl) w

/-- The whole window of shape `S1x4x64`. -/
theorem window_S1x4x64 {α : Type} (x : S1x4x64.Idx → α) (inb) : VecWindow.window x ![0, 0, 0] ![1, 4, 64] inb = x := window_whole x inb

/-- The whole of shape `S1x4x64` put. -/
theorem put_S1x4x64 {α : Type} (x w : S1x4x64.Idx → α) : VecWindow.put x ![0, 0, 0] ![1, 4, 64] w = w :=
  put_whole x (fun a => by fin_cases a <;> rfl) w

/-- The whole window of shape `S1x4x1`. -/
theorem window_S1x4x1 {α : Type} (x : S1x4x1.Idx → α) (inb) : VecWindow.window x ![0, 0, 0] ![1, 4, 1] inb = x := window_whole x inb

/-- The whole of shape `S1x4x1` put. -/
theorem put_S1x4x1 {α : Type} (x w : S1x4x1.Idx → α) : VecWindow.put x ![0, 0, 0] ![1, 4, 1] w = w :=
  put_whole x (fun a => by fin_cases a <;> rfl) w

/-- The whole window of shape `S1x1024x2048`. -/
theorem window_S1x1024x2048 {α : Type} (x : S1x1024x2048.Idx → α) (inb) : VecWindow.window x ![0, 0, 0] ![1, 1024, 2048] inb = x := window_whole x inb

/-- The whole of shape `S1x1024x2048` put. -/
theorem put_S1x1024x2048 {α : Type} (x w : S1x1024x2048.Idx → α) : VecWindow.put x ![0, 0, 0] ![1, 1024, 2048] w = w :=
  put_whole x (fun a => by fin_cases a <;> rfl) w

/-- The whole window of shape `S1x4x1024`. -/
theorem window_S1x4x1024 {α : Type} (x : S1x4x1024.Idx → α) (inb) : VecWindow.window x ![0, 0, 0] ![1, 4, 1024] inb = x := window_whole x inb

/-- The whole of shape `S1x4x1024` put. -/
theorem put_S1x4x1024 {α : Type} (x w : S1x4x1024.Idx → α) : VecWindow.put x ![0, 0, 0] ![1, 4, 1024] w = w :=
  put_whole x (fun a => by fin_cases a <;> rfl) w

/-- The whole window of shape `S1x4x2048`. -/
theorem window_S1x4x2048 {α : Type} (x : S1x4x2048.Idx → α) (inb) : VecWindow.window x ![0, 0, 0] ![1, 4, 2048] inb = x := window_whole x inb

/-- The whole of shape `S1x4x2048` put. -/
theorem put_S1x4x2048 {α : Type} (x w : S1x4x2048.Idx → α) : VecWindow.put x ![0, 0, 0] ![1, 4, 2048] w = w :=
  put_whole x (fun a => by fin_cases a <;> rfl) w

/-- The whole window of shape `S1x4x3`. -/
theorem window_S1x4x3 {α : Type} (x : S1x4x3.Idx → α) (inb) : VecWindow.window x ![0, 0, 0] ![1, 4, 3] inb = x := window_whole x inb

/-- The whole of shape `S1x4x3` put. -/
theorem put_S1x4x3 {α : Type} (x w : S1x4x3.Idx → α) : VecWindow.put x ![0, 0, 0] ![1, 4, 3] w = w :=
  put_whole x (fun a => by fin_cases a <;> rfl) w

/-- The whole window of shape `S8x1x2048`. -/
theorem window_S8x1x2048 {α : Type} (x : S8x1x2048.Idx → α) (inb) : VecWindow.window x ![0, 0, 0] ![8, 1, 2048] inb = x := window_whole x inb

/-- The whole of shape `S8x1x2048` put. -/
theorem put_S8x1x2048 {α : Type} (x w : S8x1x2048.Idx → α) : VecWindow.put x ![0, 0, 0] ![8, 1, 2048] w = w :=
  put_whole x (fun a => by fin_cases a <;> rfl) w

/-- The whole window of shape `S8x2048`. -/
theorem window_S8x2048 {α : Type} (x : S8x2048.Idx → α) (inb) : VecWindow.window x ![0, 0] ![8, 2048] inb = x := window_whole x inb

/-- The whole of shape `S8x2048` put. -/
theorem put_S8x2048 {α : Type} (x w : S8x2048.Idx → α) : VecWindow.put x ![0, 0] ![8, 2048] w = w :=
  put_whole x (fun a => by fin_cases a <;> rfl) w

/-- The whole window of shape `S2048x1`. -/
theorem window_S2048x1 {α : Type} (x : S2048x1.Idx → α) (inb) : VecWindow.window x ![0, 0] ![2048, 1] inb = x := window_whole x inb

/-- The whole of shape `S2048x1` put. -/
theorem put_S2048x1 {α : Type} (x w : S2048x1.Idx → α) : VecWindow.put x ![0, 0] ![2048, 1] w = w :=
  put_whole x (fun a => by fin_cases a <;> rfl) w

/-- The whole window of shape `S4x2048`. -/
theorem window_S4x2048 {α : Type} (x : S4x2048.Idx → α) (inb) : VecWindow.window x ![0, 0] ![4, 2048] inb = x := window_whole x inb

/-- The whole of shape `S4x2048` put. -/
theorem put_S4x2048 {α : Type} (x w : S4x2048.Idx → α) : VecWindow.put x ![0, 0] ![4, 2048] w = w :=
  put_whole x (fun a => by fin_cases a <;> rfl) w

/-- The allocation weights of one batch entry, as a row, from its usage row `x1` and its usage column `x2`. -/
def allocV (x1 : Vec F S1x1x2048 .f32) (x2 : Vec F S1x2048x1 .f32) : FVec F S1x2048 .f32 :=
  k0_pay25 (k0_pay6 x1) (k0_pay8 x2) (iota .tc S256x2048 32 [1] iota_S256x2048_d1_w32) (k0_pay9 x1 x2)
    (k0_pay12 (k0_pay8 x2) (k0_pay10 x1 x2) (Scalar.ofBits .f32 0x00000000#32) k0_pay11)
    (k0_pay13 (k0_pay6 x1) (k0_pay7 x2) (k0_pay8 x2) (iota .tc S256x2048 32 [1] iota_S256x2048_d1_w32))
    (k0_pay14 (k0_pay6 x1) (k0_pay7 x2) (k0_pay8 x2) (iota .tc S256x2048 32 [1] iota_S256x2048_d1_w32))
    (k0_pay19 (k0_pay8 x2) (iota .tc S256x2048 32 [1] iota_S256x2048_d1_w32) (k0_pay16 (k0_pay6 x1) (k0_pay7 x2)) (k0_pay17 (k0_pay6 x1) (k0_pay7 x2)) k0_pay18)
    (k0_pay20 (k0_pay6 x1) (k0_pay7 x2) (k0_pay8 x2) (iota .tc S256x2048 32 [1] iota_S256x2048_d1_w32))
    (k0_pay21 (k0_pay6 x1) (k0_pay7 x2) (k0_pay8 x2) (iota .tc S256x2048 32 [1] iota_S256x2048_d1_w32))
    (k0_pay22 (k0_pay7 x2)) k0_pay23 (k0_pay24 (k0_pay6 x1))

/-- The similarities of one batch entry's memory rows with its write key. -/
def simV (x0 : Vec F S1x2048x64 .f32) (x3 : Vec F S1x1x64 .f32) : FVec F S1x2048 .f32 := k0_pay27 (k0_pay5 x0) x3

/-- The write weights of one batch entry, as a row. -/
def wwV (x0 : Vec F S1x2048x64 .f32) (x1 : Vec F S1x1x2048 .f32) (x2 : Vec F S1x2048x1 .f32) (x3 : Vec F S1x1x64 .f32)
    (x4 x5 x6 : Vec F S1x1x1 .f32) : FVec F S1x2048 .f32 :=
  k0_pay29 (allocV x1 x2) (simV x0 x3) x4 x5 x6

/-- The updated memory of one batch entry, as rows. -/
def memV (x0 : Vec F S1x2048x64 .f32) (x1 : Vec F S1x1x2048 .f32) (x2 : Vec F S1x2048x1 .f32) (x3 : Vec F S1x1x64 .f32)
    (x4 x5 x6 : Vec F S1x1x1 .f32) (x7 x8 : Vec F S1x1x64 .f32) : FVec F S2048x64 .f32 :=
  k0_pay30 (k0_pay5 x0) (allocV x1 x2) (simV x0 x3) x4 x5 x6 x8 x7

/-- The updated memory of one batch entry, as the block written back. -/
def memB (x0 : Vec F S1x2048x64 .f32) (x1 : Vec F S1x1x2048 .f32) (x2 : Vec F S1x2048x1 .f32) (x3 : Vec F S1x1x64 .f32)
    (x4 x5 x6 : Vec F S1x1x1 .f32) (x7 x8 : Vec F S1x1x64 .f32) : FVec F S1x2048x64 .f32 :=
  k0_pay31 (k0_pay5 x0) (allocV x1 x2) (simV x0 x3) x4 x5 x6 x8 x7

/-- The content weights of one batch entry's read heads over the updated memory `mn`. -/
def cwV (mn : FVec F S2048x64 .f32) (x9 : Vec F S1x4x64 .f32) (x10 : Vec F S1x4x1 .f32) : FVec F S4x2048 .f32 :=
  k0_pay33 k0_pay26 mn x9 x10

end Cert.KernelIdeal.Body

end
-- ==== Proof.KernelIdeal.Data.lean ====
/- What the windows and the carried buffers hold, point by point, in closed form. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Vals
public import proofs.«01_k».proof.Proof.Gen.KernelIdeal.Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The grid's point number `n`, for any `n`. -/
def pt (n : ℕ) : Fin cfg0.N := ⟨n % 16, by rw [show cfg0.N = 16 from N_0]; exact Nat.mod_lt _ (by decide)⟩

/-- The point numbered by a point's number is that point. -/
theorem pt_val (t : Fin cfg0.N) : pt t.val = t :=
  Fin.ext (Nat.mod_eq_of_lt (lt_of_lt_of_eq t.isLt (show cfg0.N = 16 from N_0)))

/-- Window 0's block at point `n`. -/
def I0 (n : ℕ) : Vec F S1x2048x64 .f32 := iblk m c 0 (pt n)

/-- Window 1's block at point `n`. -/
def I1 (n : ℕ) : Vec F S1x1x2048 .f32 := iblk m c 1 (pt n)

/-- Window 2's block at point `n`. -/
def I2 (n : ℕ) : Vec F S1x2048x1 .f32 := iblk m c 2 (pt n)

/-- Window 3's block at point `n`. -/
def I3 (n : ℕ) : Vec F S1x1x64 .f32 := iblk m c 3 (pt n)

/-- Window 4's block at point `n`. -/
def I4 (n : ℕ) : Vec F S1x1x1 .f32 := iblk m c 4 (pt n)

/-- Window 5's block at point `n`. -/
def I5 (n : ℕ) : Vec F S1x1x1 .f32 := iblk m c 5 (pt n)

/-- Window 6's block at point `n`. -/
def I6 (n : ℕ) : Vec F S1x1x1 .f32 := iblk m c 6 (pt n)

/-- Window 7's block at point `n`. -/
def I7 (n : ℕ) : Vec F S1x1x64 .f32 := iblk m c 7 (pt n)

/-- Window 8's block at point `n`. -/
def I8 (n : ℕ) : Vec F S1x1x64 .f32 := iblk m c 8 (pt n)

/-- Window 9's block at point `n`. -/
def I9 (n : ℕ) : Vec F S1x4x64 .f32 := iblk m c 9 (pt n)

/-- Window 10's block at point `n`. -/
def I10 (n : ℕ) : Vec F S1x4x1 .f32 := iblk m c 10 (pt n)

/-- Window 11's block at point `n`. -/
def I11 (n : ℕ) : Vec F S1x1024x2048 .f32 := iblk m c 11 (pt n)

/-- Window 12's block at point `n`. -/
def I12 (n : ℕ) : Vec F S1x4x1024 .f32 := iblk m c 12 (pt n)

/-- Window 13's block at point `n`. -/
def I13 (n : ℕ) : Vec F S1x1x2048 .f32 := iblk m c 13 (pt n)

/-- Window 14's block at point `n`. -/
def I14 (n : ℕ) : Vec F S1x4x2048 .f32 := iblk m c 14 (pt n)

/-- Window 15's block at point `n`. -/
def I15 (n : ℕ) : Vec F S1x4x3 .f32 := iblk m c 15 (pt n)

/-- Window 16's block at point `n`. -/
def I16 (n : ℕ) : Vec F S1x1x2048 .f32 := iblk m c 16 (pt n)

/-- Window 17's block at point `n`. -/
def I17 (n : ℕ) : Vec F S1x1x2048 .f32 := iblk m c 17 (pt n)

/-- Window 18's block at point `n`. -/
def I18 (n : ℕ) : Vec F S8x1x2048 .f32 := iblk m c 18 (pt n)

/-- The write weights of batch entry `k`. -/
def WW (k : ℕ) : FVec F S1x2048 .f32 := wwV (I0 m c k) (I1 m c k) (I2 m c k) (I3 m c k) (I4 m c k) (I5 m c k) (I6 m c k)

/-- The updated memory of batch entry `k`, as rows. -/
def MN (k : ℕ) : FVec F S2048x64 .f32 := memV (I0 m c k) (I1 m c k) (I2 m c k) (I3 m c k) (I4 m c k) (I5 m c k) (I6 m c k) (I7 m c k) (I8 m c k)

/-- The updated memory of batch entry `k`, as a block. -/
def MB (k : ℕ) : FVec F S1x2048x64 .f32 := memB (I0 m c k) (I1 m c k) (I2 m c k) (I3 m c k) (I4 m c k) (I5 m c k) (I6 m c k) (I7 m c k) (I8 m c k)

/-- The content weights of batch entry `k`. -/
def CW (k : ℕ) : FVec F S4x2048 .f32 := cwV (MN m c k) (I9 m c k) (I10 m c k)

/-- The strip of write weights of point `n`, as a column. -/
def V15 (n : ℕ) : FVec F S1024x1 .f32 :=
  VecWindow.window (k0_pay39 (WW m c (n / 2))) (k0_off6 (grid0.coords (pt n))) S1024x1.size (k0_off6_inb _)

/-- The strip of the updated link matrix at point `n`. -/
def LL (n : ℕ) : FVec F S1024x2048 .f32 := k0_pay41 (WW m c (n / 2)) (I13 m c n) (V15 m c n) (I11 m c n)

/-- The same strip, as the block written back. -/
def O19 (n : ℕ) : FVec F S1x1024x2048 .f32 := k0_pay42 (WW m c (n / 2)) (I13 m c n) (V15 m c n) (I11 m c n)

/-- The forward weights over point `n`'s strip. -/
def FP (n : ℕ) : FVec F S4x1024 .f32 := k0_pay1 (LL m c n) (k0_pay43 (I14 m c n)) (constant S4x1024 .f32 0x00000000#32)

/-- The forward weights over the two strips that end at point `n`. -/
def FW (n : ℕ) : FVec F S4x2048 .f32 :=
  VecWindow.put (s := S4x2048) (VecWindow.put (s := S4x2048) (constant S4x2048 .f32 0x00000000#32) ![0, 0] S4x1024.size (FP m c (n - 1))) ![0, 1024] S4x1024.size (FP m c n)

/-- The backward weights after the first strip of a batch entry, at point `n`. -/
def B0 (n : ℕ) : FVec F S4x2048 .f32 := k0_pay2 (LL m c n) k0_pay40 (I12 m c n)

/-- The backward weights after the two strips that end at point `n`. -/
def BW (n : ℕ) : FVec F S4x2048 .f32 := k0_pay2 (LL m c n) (B0 m c (n - 1)) (I12 m c n)

/-- The new read weights at point `n`. -/
def O21 (n : ℕ) : FVec F S1x4x2048 .f32 := k0_pay35 (I15 m c n) (CW m c (n / 2)) (FW m c n) (BW m c n)

/-- The read values at point `n`. -/
def O22 (n : ℕ) : FVec F S1x4x64 .f32 := k0_pay36 (I15 m c n) (CW m c (n / 2)) (FW m c n) (BW m c n) (k0_pay32 (MN m c (n / 2)))

/-- The new usage at point `n`. -/
def O23 (n : ℕ) : FVec F S1x1x2048 .f32 :=
  k0_pay3 (WW m c (n / 2)) (k0_pay37 (I15 m c n) (CW m c (n / 2)) (FW m c n) (BW m c n)) (k0_pay38 (I16 m c n)) (I17 m c n)

/-- The position of column `j` in a row. -/
def rowIx (j : Fin 2048) : S1x2048.Idx := fun a => ⟨(![0, j.val] : Fin 2 → ℕ) a, by
  fin_cases a
  · exact Nat.zero_lt_one
  · exact j.isLt⟩

/-- The write weights of all batch entries. -/
def WALL : Vec F S8x2048 .f32 := fun y => WW m c (y 0).val (rowIx (y 1))

/-- The new precedence, at the last point. -/
def O24 (n : ℕ) : FVec F S8x1x2048 .f32 := k0_pay4 (WALL m c) (I18 m c n) (WALL m c)

/-- What the carried buffers hold before point `n`: the rows, column blocks and row blocks of the batch entries
    dealt with; at a batch entry's second point also its write weights as a column, the forward weights over its
    first strip and the backward weights from it. -/
def Inv (n : ℕ) (x25 : Vec F S8x2048 .f32) (x26 : Vec F S2048x1 .f32) (x27 : Vec F S4x16384 .f32) (x28 : Vec F S16384x64 .f32)
    (x29 x30 : Vec F S4x2048 .f32) : Prop :=
  (∀ k, k < 8 → k < n → ∀ inb, VecWindow.window (s := S8x2048) x25 ![k, 0] S1x2048.size inb = WW m c k)
  ∧ (∀ k, k < 8 → k < n → ∀ inb, VecWindow.window (s := S4x16384) x27 ![0, 2048 * k] S4x2048.size inb = CW m c k)
  ∧ (∀ k, k < 8 → k < n → ∀ inb, VecWindow.window (s := S16384x64) x28 ![2048 * k, 0] S2048x64.size inb = k0_pay32 (MN m c k))
  ∧ (n % 2 = 1 → x26 = k0_pay39 (WW m c (n / 2))
      ∧ (∀ inb, VecWindow.window (s := S4x2048) x29 ![0, 0] S4x1024.size inb = FP m c (n - 1))
      ∧ x30 = B0 m c (n - 1))

/-- The window at equal offsets. -/
theorem window_off {α : Type} {s : Shape} (x : s.Idx → α) {off off' size : Fin s.rank → ℕ} (h : off = off') (inb : ∀ a, off a + size a ≤ s.size a)
    (inb' : ∀ a, off' a + size a ≤ s.size a) : VecWindow.window x off size inb = VecWindow.window x off' size inb' := by
  subst h; rfl

/-- Two strips side by side are all there is. -/
theorem put_tile {α : Type} (x z : S4x2048.Idx → α) (w1 w2 : S4x1024.Idx → α) (inb)
    (h : VecWindow.window (s := S4x2048) x ![0, 0] S4x1024.size inb = w1) :
    VecWindow.put (s := S4x2048) x ![0, 1024] S4x1024.size w2
      = VecWindow.put (s := S4x2048) (VecWindow.put (s := S4x2048) z ![0, 0] S4x1024.size w1) ![0, 1024] S4x1024.size w2 := by
  subst h
  funext y
  unfold VecWindow.put
  by_cases h2 : ∀ a, (![0, 1024] : Fin 2 → ℕ) a ≤ (y a).val ∧ (y a).val < (![0, 1024] : Fin 2 → ℕ) a + S4x1024.size a
  · rw [dif_pos h2, dif_pos h2]
  · rw [dif_neg h2, dif_neg h2]
    have y0 : (y 0).val < 4 := (y 0).isLt
    have y1 : (y 1).val < 2048 := (y 1).isLt
    have h1 : ∀ a, (![0, 0] : Fin 2 → ℕ) a ≤ (y a).val ∧ (y a).val < (![0, 0] : Fin 2 → ℕ) a + S4x1024.size a := by
      have hlt : (y 1).val < 1024 := by
        by_contra hge
        apply h2
        intro a
        fin_cases a
        · exact ⟨Nat.zero_le _, by show (y 0).val < 0 + 4; omega⟩
        · exact ⟨by show 1024 ≤ (y 1).val; omega, by show (y 1).val < 1024 + 1024; omega⟩
      intro a
      fin_cases a
      · exact ⟨Nat.zero_le _, by show (y 0).val < 0 + 4; omega⟩
      · exact ⟨Nat.zero_le _, by show (y 1).val < 0 + 1024; omega⟩
    rw [dif_pos h1]
    refine congrArg x (funext fun a => Fin.ext ?_)
    fin_cases a
    · show (y 0).val = 0 + 1 * ((y 0).val - 0); omega
    · show (y 1).val = 0 + 1 * ((y 1).val - 0); omega

/-- A point of the first half adds its batch entry's rows25. -/
theorem put_rows25 (t : ℕ) (i : grid0.Coords) (hi : 2 * (i 0).val + (i 1).val = t) (x : S8x2048.Idx → F .f32) (w : S1x2048.Idx → F .f32) (V : ℕ → S1x2048.Idx → F .f32) (hw : w = V t)
    (h : ∀ k, k < 8 → k < t → ∀ inb, VecWindow.window (s := S8x2048) x ![k, 0] S1x2048.size inb = V k) :
    ∀ k, k < 8 → k < t + 1 → ∀ inb, VecWindow.window (s := S8x2048) (VecWindow.put (s := S8x2048) x (k0_off1 i) S1x2048.size w) ![k, 0] S1x2048.size inb = V k := by
  intro k h8 hk inb
  have ho : k0_off1 i = ![t, 0] := by rw [k0_off1_eq, hi]
  rw [ho]
  by_cases e : k = t
  · subst e; rw [VecWindow.window_put_same, hw]
  · rw [VecWindow.window_put_of_disjoint (s := S8x2048) x _ _ _ _ inb w (0 : Fin 2) (by show k + 1 ≤ t  ∨ t + 1 ≤ k ; omega)]
    exact h k h8 (by omega) inb

/-- A point of the first half adds its batch entry's cols27. -/
theorem put_cols27 (t : ℕ) (i : grid0.Coords) (hi : 2 * (i 0).val + (i 1).val = t) (x : S4x16384.Idx → F .f32) (w : S4x2048.Idx → F .f32) (V : ℕ → S4x2048.Idx → F .f32) (hw : w = V t)
    (h : ∀ k, k < 8 → k < t → ∀ inb, VecWindow.window (s := S4x16384) x ![0, 2048 * k] S4x2048.size inb = V k) :
    ∀ k, k < 8 → k < t + 1 → ∀ inb, VecWindow.window (s := S4x16384) (VecWindow.put (s := S4x16384) x (k0_off3 i) S4x2048.size w) ![0, 2048 * k] S4x2048.size inb = V k := by
  intro k h8 hk inb
  have ho : k0_off3 i = ![0, 2048 * t] := by rw [k0_off3_eq, show 4096 * (i 0).val + 2048 * (i 1).val = 2048 * t by omega]
  rw [ho]
  by_cases e : k = t
  · subst e; rw [VecWindow.window_put_same, hw]
  · rw [VecWindow.window_put_of_disjoint (s := S4x16384) x _ _ _ _ inb w (1 : Fin 2) (by show 2048 * k + 2048 ≤ 2048 * t  ∨ 2048 * t + 2048 ≤ 2048 * k ; omega)]
    exact h k h8 (by omega) inb

/-- A point of the first half adds its batch entry's rows28. -/
theorem put_rows28 (t : ℕ) (i : grid0.Coords) (hi : 2 * (i 0).val + (i 1).val = t) (x : S16384x64.Idx → F .f32) (w : S2048x64.Idx → F .f32) (V : ℕ → S2048x64.Idx → F .f32) (hw : w = V t)
    (h : ∀ k, k < 8 → k < t → ∀ inb, VecWindow.window (s := S16384x64) x ![2048 * k, 0] S2048x64.size inb = V k) :
    ∀ k, k < 8 → k < t + 1 → ∀ inb, VecWindow.window (s := S16384x64) (VecWindow.put (s := S16384x64) x (k0_off2 i) S2048x64.size w) ![2048 * k, 0] S2048x64.size inb = V k := by
  intro k h8 hk inb
  have ho : k0_off2 i = ![2048 * t, 0] := by rw [k0_off2_eq, show 4096 * (i 0).val + 2048 * (i 1).val = 2048 * t by omega]
  rw [ho]
  by_cases e : k = t
  · subst e; rw [VecWindow.window_put_same, hw]
  · rw [VecWindow.window_put_of_disjoint (s := S16384x64) x _ _ _ _ inb w (0 : Fin 2) (by show 2048 * k + 2048 ≤ 2048 * t  ∨ 2048 * t + 2048 ≤ 2048 * k ; omega)]
    exact h k h8 (by omega) inb

/-- When every batch entry has been dealt with, the carried rows are all the write weights. -/
theorem wall_eq (n : ℕ) (hn : 8 ≤ n) (x25 : Vec F S8x2048 .f32)
    (h : ∀ k, k < 8 → k < n → ∀ inb, VecWindow.window (s := S8x2048) x25 ![k, 0] S1x2048.size inb = WW m c k) : x25 = WALL m c := by
  funext y
  have y0 : (y 0).val < 8 := (y 0).isLt
  have inb : ∀ a, (![(y 0).val, 0] : Fin 2 → ℕ) a + S1x2048.size a ≤ S8x2048.size a := by
    intro a; fin_cases a
    · show (y 0).val + 1 ≤ 8; omega
    · show 0 + 2048 ≤ 2048; omega
  unfold WALL
  rw [← h (y 0).val y0 (by omega) inb]
  refine congrArg x25 (funext fun a => Fin.ext ?_)
  fin_cases a
  · show (y 0).val = (y 0).val + 1 * 0; omega
  · show (y 1).val = 0 + 1 * (y 1).val; omega

/-- The first grid coordinate of a point. -/
theorem co0 (t : Fin cfg0.N) : (grid0.coords t 0).val = t.val / 2 := by
  have ht : t.val < 16 := Nat.lt_of_lt_of_eq t.isLt N_0
  have e0 : (grid0.coords t 0).val = t.val / 2 % 8 := Pipeline.Grid.coords_val t 0 (by decide) rfl
  omega

/-- The second grid coordinate of a point. -/
theorem co1 (t : Fin cfg0.N) : (grid0.coords t 1).val = t.val % 2 := by
  have e1 : (grid0.coords t 1).val = t.val / 1 % 2 := Pipeline.Grid.coords_val t 1 (by decide) rfl
  omega

/-- When the first branch runs. -/
theorem hcond1 : ∀ t : Fin cfg0.N, k0_cond1 (grid0.coords t) = 1#1 ↔ t.val < 8 := by decide +kernel
/-- When the second branch runs. -/
theorem hcond2 : ∀ t : Fin cfg0.N, k0_cond2 (grid0.coords t) = 1#1 ↔ t.val % 2 = 0 := by decide +kernel
/-- When the third branch runs. -/
theorem hcond3 : ∀ t : Fin cfg0.N, k0_cond3 (grid0.coords t) = 1#1 ↔ t.val % 2 = 1 := by decide +kernel
/-- When the fourth branch runs. -/
theorem hcond4 : ∀ t : Fin cfg0.N, k0_cond4 (grid0.coords t) = 1#1 ↔ t.val = 15 := by decide +kernel

set_option maxHeartbeats 1000000 in
/-- What the body leaves at such a point is what is stated, and the carried buffers are again as stated. (The body at an even point of the first half.) -/
theorem step_A (t : Fin cfg0.N) (h8 : t.val < 8) (h2 : t.val % 2 = 0) (hc2 : k0_cond2 (grid0.coords t) = 1#1) (x25 : Vec F S8x2048 .f32) (x26 : Vec F S2048x1 .f32) (x27 : Vec F S4x16384 .f32) (x28 : Vec F S16384x64 .f32)
    (x29 x30 : Vec F S4x2048 .f32) (hI : Inv m c t.val x25 x26 x27 x28 x29 x30) :
    (k0_pay42 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window (k0_pay39 (VecWindow.window (VecWindow.put x25 (k0_off1 (grid0.coords t)) S1x2048.size (wwV (I0 m c t.val) (I1 m c t.val) (I2 m c t.val) (I3 m c t.val) (I4 m c t.val) (I5 m c t.val) (I6 m c t.val))) (k0_off4 (grid0.coords t)) S1x2048.size (k0_off4_inb (grid0.coords t) hc2))) (k0_off6 (grid0.coords t)) S1024x1.size (k0_off6_inb (grid0.coords t))) (I11 m c t.val)) = O19 m c t.val
    ∧ (memB (I0 m c t.val) (I1 m c t.val) (I2 m c t.val) (I3 m c t.val) (I4 m c t.val) (I5 m c t.val) (I6 m c t.val) (I7 m c t.val) (I8 m c t.val)) = MB m c (min t.val 7)
    ∧ Inv m c (t.val + 1) (VecWindow.put x25 (k0_off1 (grid0.coords t)) S1x2048.size (wwV (I0 m c t.val) (I1 m c t.val) (I2 m c t.val) (I3 m c t.val) (I4 m c t.val) (I5 m c t.val) (I6 m c t.val))) (k0_pay39 (VecWindow.window (VecWindow.put x25 (k0_off1 (grid0.coords t)) S1x2048.size (wwV (I0 m c t.val) (I1 m c t.val) (I2 m c t.val) (I3 m c t.val) (I4 m c t.val) (I5 m c t.val) (I6 m c t.val))) (k0_off4 (grid0.coords t)) S1x2048.size (k0_off4_inb (grid0.coords t) hc2))) (VecWindow.put x27 (k0_off3 (grid0.coords t)) S4x2048.size (cwV (memV (I0 m c t.val) (I1 m c t.val) (I2 m c t.val) (I3 m c t.val) (I4 m c t.val) (I5 m c t.val) (I6 m c t.val) (I7 m c t.val) (I8 m c t.val)) (I9 m c t.val) (I10 m c t.val))) (VecWindow.put x28 (k0_off2 (grid0.coords t)) S2048x64.size (k0_pay32 (memV (I0 m c t.val) (I1 m c t.val) (I2 m c t.val) (I3 m c t.val) (I4 m c t.val) (I5 m c t.val) (I6 m c t.val) (I7 m c t.val) (I8 m c t.val)))) (VecWindow.put x29 (k0_off7 (grid0.coords t)) S4x1024.size (k0_pay1 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window (k0_pay39 (VecWindow.window (VecWindow.put x25 (k0_off1 (grid0.coords t)) S1x2048.size (wwV (I0 m c t.val) (I1 m c t.val) (I2 m c t.val) (I3 m c t.val) (I4 m c t.val) (I5 m c t.val) (I6 m c t.val))) (k0_off4 (grid0.coords t)) S1x2048.size (k0_off4_inb (grid0.coords t) hc2))) (k0_off6 (grid0.coords t)) S1024x1.size (k0_off6_inb (grid0.coords t))) (I11 m c t.val)) (k0_pay43 (I14 m c t.val)) (constant S4x1024 .f32 0x00000000#32))) (k0_pay2 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window (k0_pay39 (VecWindow.window (VecWindow.put x25 (k0_off1 (grid0.coords t)) S1x2048.size (wwV (I0 m c t.val) (I1 m c t.val) (I2 m c t.val) (I3 m c t.val) (I4 m c t.val) (I5 m c t.val) (I6 m c t.val))) (k0_off4 (grid0.coords t)) S1x2048.size (k0_off4_inb (grid0.coords t) hc2))) (k0_off6 (grid0.coords t)) S1024x1.size (k0_off6_inb (grid0.coords t))) (I11 m c t.val)) k0_pay40 (I12 m c t.val)) := by
  obtain ⟨h25, h27, h28, hodd⟩ := hI
  have ht : t.val < 16 := Nat.lt_of_lt_of_eq t.isLt N_0
  have c0 := co0 t
  have c1 := co1 t
  have hi : 2 * (grid0.coords t 0).val + (grid0.coords t 1).val = t.val := by omega
  have n25 := put_rows25 t.val (grid0.coords t) hi x25 _ (WW m c) (rfl : wwV (I0 m c t.val) (I1 m c t.val) (I2 m c t.val) (I3 m c t.val) (I4 m c t.val) (I5 m c t.val) (I6 m c t.val) = WW m c t.val) h25
  have n27 := put_cols27 t.val (grid0.coords t) hi x27 _ (CW m c) (rfl : cwV (memV (I0 m c t.val) (I1 m c t.val) (I2 m c t.val) (I3 m c t.val) (I4 m c t.val) (I5 m c t.val) (I6 m c t.val) (I7 m c t.val) (I8 m c t.val)) (I9 m c t.val) (I10 m c t.val) = CW m c t.val) h27
  have n28 := put_rows28 t.val (grid0.coords t) hi x28 _ (fun k => k0_pay32 (MN m c k)) (rfl : k0_pay32 (memV (I0 m c t.val) (I1 m c t.val) (I2 m c t.val) (I3 m c t.val) (I4 m c t.val) (I5 m c t.val) (I6 m c t.val) (I7 m c t.val) (I8 m c t.val)) = k0_pay32 (MN m c t.val)) h28
  have inb5 : ∀ a, (![t.val / 2, 0] : Fin 2 → ℕ) a + S1x2048.size a ≤ S8x2048.size a := by
    have := k0_off5_inb (grid0.coords t); rw [k0_off5_eq, c0] at this; exact this
  have e9 : (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) = WW m c (t.val / 2) :=
    (window_off (s := S8x2048) (off := k0_off5 (grid0.coords t)) (off' := ![t.val / 2, 0]) _ (by rw [k0_off5_eq, c0]) _ inb5).trans (n25 (t.val / 2) (by omega) (by omega) inb5)
  have e4 : (VecWindow.window (VecWindow.put x25 (k0_off1 (grid0.coords t)) S1x2048.size (wwV (I0 m c t.val) (I1 m c t.val) (I2 m c t.val) (I3 m c t.val) (I4 m c t.val) (I5 m c t.val) (I6 m c t.val))) (k0_off4 (grid0.coords t)) S1x2048.size (k0_off4_inb (grid0.coords t) hc2)) = WW m c (t.val / 2) :=
    (window_off (s := S8x2048) (off := k0_off4 (grid0.coords t)) (off' := ![t.val / 2, 0]) _ (by rw [k0_off4_eq, c0]) _ inb5).trans (n25 (t.val / 2) (by omega) (by omega) inb5)
  have e15 : VecWindow.window (k0_pay39 (WW m c (t.val / 2))) (k0_off6 (grid0.coords t)) S1024x1.size (k0_off6_inb (grid0.coords t)) = V15 m c t.val :=
    window_off (s := S2048x1) (off := k0_off6 (grid0.coords t)) (off' := k0_off6 (grid0.coords (pt t.val))) _ (by rw [pt_val]) _ _
  rw [e9]
  rw [e4]
  rw [e15]
  refine ⟨rfl, by rw [min_eq_left (by omega)]; rfl, n25, n27, n28, fun _ => ⟨?_, ?_, ?_⟩⟩
  · rw [show (t.val + 1) / 2 = t.val / 2 by omega]
  · intro inb
    rw [show t.val + 1 - 1 = t.val by omega]
    have e7 : k0_off7 (grid0.coords t) = ![0, 0] := by rw [k0_off7_eq, c1, h2]
    rw [e7]
    exact VecWindow.window_put_same (s := S4x2048) _ _ _ inb _
  · rw [show t.val + 1 - 1 = t.val by omega]; rfl

set_option maxHeartbeats 1000000 in
/-- What the body leaves at such a point is what is stated, and the carried buffers are again as stated. (The body at an odd point of the first half.) -/
theorem step_B (t : Fin cfg0.N) (h8 : t.val < 8) (h2 : t.val % 2 = 1) (hc3 : k0_cond3 (grid0.coords t) = 1#1) (x25 : Vec F S8x2048 .f32) (x26 : Vec F S2048x1 .f32) (x27 : Vec F S4x16384 .f32) (x28 : Vec F S16384x64 .f32)
    (x29 x30 : Vec F S4x2048 .f32) (hI : Inv m c t.val x25 x26 x27 x28 x29 x30) :
    (k0_pay42 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) = O19 m c t.val
    ∧ (memB (I0 m c t.val) (I1 m c t.val) (I2 m c t.val) (I3 m c t.val) (I4 m c t.val) (I5 m c t.val) (I6 m c t.val) (I7 m c t.val) (I8 m c t.val)) = MB m c (min t.val 7)
    ∧ (k0_pay35 (I15 m c t.val) (VecWindow.window (VecWindow.put x27 (k0_off3 (grid0.coords t)) S4x2048.size (cwV (memV (I0 m c t.val) (I1 m c t.val) (I2 m c t.val) (I3 m c t.val) (I4 m c t.val) (I5 m c t.val) (I6 m c t.val) (I7 m c t.val) (I8 m c t.val)) (I9 m c t.val) (I10 m c t.val))) (k0_off8 (grid0.coords t)) S4x2048.size (k0_off8_inb (grid0.coords t) hc3)) (VecWindow.put x29 (k0_off7 (grid0.coords t)) S4x1024.size (k0_pay1 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val))) = O21 m c t.val
    ∧ (k0_pay36 (I15 m c t.val) (VecWindow.window (VecWindow.put x27 (k0_off3 (grid0.coords t)) S4x2048.size (cwV (memV (I0 m c t.val) (I1 m c t.val) (I2 m c t.val) (I3 m c t.val) (I4 m c t.val) (I5 m c t.val) (I6 m c t.val) (I7 m c t.val) (I8 m c t.val)) (I9 m c t.val) (I10 m c t.val))) (k0_off8 (grid0.coords t)) S4x2048.size (k0_off8_inb (grid0.coords t) hc3)) (VecWindow.put x29 (k0_off7 (grid0.coords t)) S4x1024.size (k0_pay1 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val)) (VecWindow.window (VecWindow.put x28 (k0_off2 (grid0.coords t)) S2048x64.size (k0_pay32 (memV (I0 m c t.val) (I1 m c t.val) (I2 m c t.val) (I3 m c t.val) (I4 m c t.val) (I5 m c t.val) (I6 m c t.val) (I7 m c t.val) (I8 m c t.val)))) (k0_off9 (grid0.coords t)) S2048x64.size (k0_off9_inb (grid0.coords t) hc3))) = O22 m c t.val
    ∧ (k0_pay3 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (k0_pay37 (I15 m c t.val) (VecWindow.window (VecWindow.put x27 (k0_off3 (grid0.coords t)) S4x2048.size (cwV (memV (I0 m c t.val) (I1 m c t.val) (I2 m c t.val) (I3 m c t.val) (I4 m c t.val) (I5 m c t.val) (I6 m c t.val) (I7 m c t.val) (I8 m c t.val)) (I9 m c t.val) (I10 m c t.val))) (k0_off8 (grid0.coords t)) S4x2048.size (k0_off8_inb (grid0.coords t) hc3)) (VecWindow.put x29 (k0_off7 (grid0.coords t)) S4x1024.size (k0_pay1 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val))) (k0_pay38 (I16 m c t.val)) (I17 m c t.val)) = O23 m c t.val
    ∧ Inv m c (t.val + 1) (VecWindow.put x25 (k0_off1 (grid0.coords t)) S1x2048.size (wwV (I0 m c t.val) (I1 m c t.val) (I2 m c t.val) (I3 m c t.val) (I4 m c t.val) (I5 m c t.val) (I6 m c t.val))) x26 (VecWindow.put x27 (k0_off3 (grid0.coords t)) S4x2048.size (cwV (memV (I0 m c t.val) (I1 m c t.val) (I2 m c t.val) (I3 m c t.val) (I4 m c t.val) (I5 m c t.val) (I6 m c t.val) (I7 m c t.val) (I8 m c t.val)) (I9 m c t.val) (I10 m c t.val))) (VecWindow.put x28 (k0_off2 (grid0.coords t)) S2048x64.size (k0_pay32 (memV (I0 m c t.val) (I1 m c t.val) (I2 m c t.val) (I3 m c t.val) (I4 m c t.val) (I5 m c t.val) (I6 m c t.val) (I7 m c t.val) (I8 m c t.val)))) (VecWindow.put x29 (k0_off7 (grid0.coords t)) S4x1024.size (k0_pay1 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val)) := by
  obtain ⟨h25, h27, h28, hodd⟩ := hI
  have ht : t.val < 16 := Nat.lt_of_lt_of_eq t.isLt N_0
  have c0 := co0 t
  have c1 := co1 t
  have hi : 2 * (grid0.coords t 0).val + (grid0.coords t 1).val = t.val := by omega
  have n25 := put_rows25 t.val (grid0.coords t) hi x25 _ (WW m c) (rfl : wwV (I0 m c t.val) (I1 m c t.val) (I2 m c t.val) (I3 m c t.val) (I4 m c t.val) (I5 m c t.val) (I6 m c t.val) = WW m c t.val) h25
  have n27 := put_cols27 t.val (grid0.coords t) hi x27 _ (CW m c) (rfl : cwV (memV (I0 m c t.val) (I1 m c t.val) (I2 m c t.val) (I3 m c t.val) (I4 m c t.val) (I5 m c t.val) (I6 m c t.val) (I7 m c t.val) (I8 m c t.val)) (I9 m c t.val) (I10 m c t.val) = CW m c t.val) h27
  have n28 := put_rows28 t.val (grid0.coords t) hi x28 _ (fun k => k0_pay32 (MN m c k)) (rfl : k0_pay32 (memV (I0 m c t.val) (I1 m c t.val) (I2 m c t.val) (I3 m c t.val) (I4 m c t.val) (I5 m c t.val) (I6 m c t.val) (I7 m c t.val) (I8 m c t.val)) = k0_pay32 (MN m c t.val)) h28
  have inb5 : ∀ a, (![t.val / 2, 0] : Fin 2 → ℕ) a + S1x2048.size a ≤ S8x2048.size a := by
    have := k0_off5_inb (grid0.coords t); rw [k0_off5_eq, c0] at this; exact this
  have e9 : (VecWindow.window (VecWindow.put x25 (k0_off1 (grid0.coords t)) S1x2048.size (wwV (I0 m c t.val) (I1 m c t.val) (I2 m c t.val) (I3 m c t.val) (I4 m c t.val) (I5 m c t.val) (I6 m c t.val))) (k0_off5 (grid0.coords t)) S1x2048.size (k0_off5_inb (grid0.coords t))) = WW m c (t.val / 2) :=
    (window_off (s := S8x2048) (off := k0_off5 (grid0.coords t)) (off' := ![t.val / 2, 0]) _ (by rw [k0_off5_eq, c0]) _ inb5).trans (n25 (t.val / 2) (by omega) (by omega) inb5)
  obtain ⟨e26, e29, e30⟩ := hodd h2
  subst e26
  subst e30
  have e15 : VecWindow.window (k0_pay39 (WW m c (t.val / 2))) (k0_off6 (grid0.coords t)) S1024x1.size (k0_off6_inb (grid0.coords t)) = V15 m c t.val :=
    window_off (s := S2048x1) (off := k0_off6 (grid0.coords t)) (off' := k0_off6 (grid0.coords (pt t.val))) _ (by rw [pt_val]) _ _
  rw [e9]
  rw [e15]
  have e7 : k0_off7 (grid0.coords t) = ![0, 1024] := by rw [k0_off7_eq, c1, h2]
  rw [e7]
  have inb29 : ∀ a, (![0, 0] : Fin 2 → ℕ) a + S4x1024.size a ≤ S4x2048.size a := by intro a; fin_cases a <;> decide
  have eFW : VecWindow.put (s := S4x2048) x29 ![0, 1024] S4x1024.size (FP m c t.val) = FW m c t.val :=
    put_tile x29 _ _ _ inb29 (e29 inb29)
  have inb8 : ∀ a, (![0, 2048 * (t.val / 2)] : Fin 2 → ℕ) a + S4x2048.size a ≤ S4x16384.size a := by
    intro a; fin_cases a
    · exact Nat.le_refl 4
    · show 2048 * (t.val / 2) + 2048 ≤ 16384; omega
  have e8 : (VecWindow.window (VecWindow.put x27 (k0_off3 (grid0.coords t)) S4x2048.size (cwV (memV (I0 m c t.val) (I1 m c t.val) (I2 m c t.val) (I3 m c t.val) (I4 m c t.val) (I5 m c t.val) (I6 m c t.val) (I7 m c t.val) (I8 m c t.val)) (I9 m c t.val) (I10 m c t.val))) (k0_off8 (grid0.coords t)) S4x2048.size (k0_off8_inb (grid0.coords t) hc3)) = CW m c (t.val / 2) :=
    (window_off (s := S4x16384) (off := k0_off8 (grid0.coords t)) (off' := ![0, 2048 * (t.val / 2)]) _ (by rw [k0_off8_eq, c0]) _ inb8).trans (n27 (t.val / 2) (by omega) (by omega) inb8)
  have inb9 : ∀ a, (![2048 * (t.val / 2), 0] : Fin 2 → ℕ) a + S2048x64.size a ≤ S16384x64.size a := by
    intro a; fin_cases a
    · show 2048 * (t.val / 2) + 2048 ≤ 16384; omega
    · exact Nat.le_refl 64
  have e77 : (VecWindow.window (VecWindow.put x28 (k0_off2 (grid0.coords t)) S2048x64.size (k0_pay32 (memV (I0 m c t.val) (I1 m c t.val) (I2 m c t.val) (I3 m c t.val) (I4 m c t.val) (I5 m c t.val) (I6 m c t.val) (I7 m c t.val) (I8 m c t.val)))) (k0_off9 (grid0.coords t)) S2048x64.size (k0_off9_inb (grid0.coords t) hc3)) = k0_pay32 (MN m c (t.val / 2)) :=
    (window_off (s := S16384x64) (off := k0_off9 (grid0.coords t)) (off' := ![2048 * (t.val / 2), 0]) _ (by rw [k0_off9_eq, c0]) _ inb9).trans (n28 (t.val / 2) (by omega) (by omega) inb9)
  rw [show (k0_pay1 (k0_pay41 (WW m c (t.val / 2)) (I13 m c t.val) (V15 m c t.val) (I11 m c t.val)) (k0_pay43 (I14 m c t.val)) (constant S4x1024 .f32 0x00000000#32)) = FP m c t.val from rfl, eFW, e8, e77]
  refine ⟨rfl, by rw [min_eq_left (by omega)]; rfl, rfl, rfl, rfl, n25, n27, n28, fun h => absurd h (by omega)⟩

set_option maxHeartbeats 1000000 in
/-- What the body leaves at such a point is what is stated, and the carried buffers are again as stated. (The body at an even point of the second half.) -/
theorem step_C (t : Fin cfg0.N) (h8 : ¬ t.val < 8) (h2 : t.val % 2 = 0) (hc2 : k0_cond2 (grid0.coords t) = 1#1) (x25 : Vec F S8x2048 .f32) (x26 : Vec F S2048x1 .f32) (x27 : Vec F S4x16384 .f32) (x28 : Vec F S16384x64 .f32)
    (x29 x30 : Vec F S4x2048 .f32) (hI : Inv m c t.val x25 x26 x27 x28 x29 x30) :
    (k0_pay42 (VecWindow.window x25 (k0_off5 (grid0.coords t)) S1x2048.size (k0_off5_inb (grid0.coords t))) (I13 m c t.val) (VecWindow.window (k0_pay39 (VecWindow.window x25 (k0_off4 (grid0.coords t)) S1x2048.size (k0_off4_inb (grid0.coords t) hc2))) (k0_off6 (grid0.coords t)) S1024x1.size (k0_off6_inb (grid0.coords t))) (I11 m c t.val)) = O19 m c t.val
    ∧ Inv m c (t.val + 1) x25 (k0_pay39 (VecWindow.window x25 (k0_off4 (grid0.coords t)) S1x2048.size (k0_off4_inb (grid0.coords t) hc2))) x27 x28 (VecWindow.put x29 (k0_off7 (grid0.coords t)) S4x1024.size (k0_pay1 (k0_pay41 (VecWindow.window x25 (k0_off5 (grid0.coords t)) S1x2048.size (k0_off5_inb (grid0.coords t))) (I13 m c t.val) (VecWindow.window (k0_pay39 (VecWindow.window x25 (k0_off4 (grid0.coords t)) S1x2048.size (k0_off4_inb (grid0.coords t) hc2))) (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window (k0_pay39 (VecWindow.window x25 (k0_off4 (grid0.coords t)) S1x2048.size (k0_off4_inb (grid0.coords t) hc2))) (k0_off6 (grid0.coords t)) S1024x1.size (k0_off6_inb (grid0.coords t))) (I11 m c t.val)) k0_pay40 (I12 m c t.val)) := by
  obtain ⟨h25, h27, h28, hodd⟩ := hI
  have ht : t.val < 16 := Nat.lt_of_lt_of_eq t.isLt N_0
  have c0 := co0 t
  have c1 := co1 t
  have n25 : ∀ k, k < 8 → k < t.val + 1 → _ := fun k a _ => h25 k a (by omega)
  have n27 : ∀ k, k < 8 → k < t.val + 1 → _ := fun k a _ => h27 k a (by omega)
  have n28 : ∀ k, k < 8 → k < t.val + 1 → _ := fun k a _ => h28 k a (by omega)
  have inb5 : ∀ a, (![t.val / 2, 0] : Fin 2 → ℕ) a + S1x2048.size a ≤ S8x2048.size a := by
    have := k0_off5_inb (grid0.coords t); rw [k0_off5_eq, c0] at this; exact this
  have e9 : (VecWindow.window x25 (k0_off5 (grid0.coords t)) S1x2048.size (k0_off5_inb (grid0.coords t))) = WW m c (t.val / 2) :=
    (window_off (s := S8x2048) (off := k0_off5 (grid0.coords t)) (off' := ![t.val / 2, 0]) _ (by rw [k0_off5_eq, c0]) _ inb5).trans (n25 (t.val / 2) (by omega) (by omega) inb5)
  have e4 : (VecWindow.window x25 (k0_off4 (grid0.coords t)) S1x2048.size (k0_off4_inb (grid0.coords t) hc2)) = WW m c (t.val / 2) :=
    (window_off (s := S8x2048) (off := k0_off4 (grid0.coords t)) (off' := ![t.val / 2, 0]) _ (by rw [k0_off4_eq, c0]) _ inb5).trans (n25 (t.val / 2) (by omega) (by omega) inb5)
  have e15 : VecWindow.window (k0_pay39 (WW m c (t.val / 2))) (k0_off6 (grid0.coords t)) S1024x1.size (k0_off6_inb (grid0.coords t)) = V15 m c t.val :=
    window_off (s := S2048x1) (off := k0_off6 (grid0.coords t)) (off' := k0_off6 (grid0.coords (pt t.val))) _ (by rw [pt_val]) _ _
  rw [e9]
  rw [e4]
  rw [e15]
  refine ⟨rfl, n25, n27, n28, fun _ => ⟨?_, ?_, ?_⟩⟩
  · rw [show (t.val + 1) / 2 = t.val / 2 by omega]
  · intro inb
    rw [show t.val + 1 - 1 = t.val by omega]
    have e7 : k0_off7 (grid0.coords t) = ![0, 0] := by rw [k0_off7_eq, c1, h2]
    rw [e7]
    exact VecWindow.window_put_same (s := S4x2048) _ _ _ inb _
  · rw [show t.val + 1 - 1 = t.val by omega]; rfl

set_option maxHeartbeats 1000000 in
/-- What the body leaves at such a point is what is stated, and the carried buffers are again as stated. (The body at an odd point of the second half, but the last.) -/
theorem step_D (t : Fin cfg0.N) (h8 : ¬ t.val < 8) (h2 : t.val % 2 = 1) (hc3 : k0_cond3 (grid0.coords t) = 1#1) (x25 : Vec F S8x2048 .f32) (x26 : Vec F S2048x1 .f32) (x27 : Vec F S4x16384 .f32) (x28 : Vec F S16384x64 .f32)
    (x29 x30 : Vec F S4x2048 .f32) (hI : Inv m c t.val x25 x26 x27 x28 x29 x30) :
    (k0_pay42 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) = O19 m c t.val
    ∧ (k0_pay35 (I15 m c t.val) (VecWindow.window x27 (k0_off8 (grid0.coords t)) S4x2048.size (k0_off8_inb (grid0.coords t) hc3)) (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val))) = O21 m c t.val
    ∧ (k0_pay36 (I15 m c t.val) (VecWindow.window x27 (k0_off8 (grid0.coords t)) S4x2048.size (k0_off8_inb (grid0.coords t) hc3)) (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val)) (VecWindow.window x28 (k0_off9 (grid0.coords t)) S2048x64.size (k0_off9_inb (grid0.coords t) hc3))) = O22 m c t.val
    ∧ (k0_pay3 (VecWindow.window x25 (k0_off5 (grid0.coords t)) S1x2048.size (k0_off5_inb (grid0.coords t))) (k0_pay37 (I15 m c t.val) (VecWindow.window x27 (k0_off8 (grid0.coords t)) S4x2048.size (k0_off8_inb (grid0.coords t) hc3)) (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val))) (k0_pay38 (I16 m c t.val)) (I17 m c t.val)) = O23 m c t.val
    ∧ Inv m c (t.val + 1) x25 x26 x27 x28 (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val)) := by
  obtain ⟨h25, h27, h28, hodd⟩ := hI
  have ht : t.val < 16 := Nat.lt_of_lt_of_eq t.isLt N_0
  have c0 := co0 t
  have c1 := co1 t
  have n25 : ∀ k, k < 8 → k < t.val + 1 → _ := fun k a _ => h25 k a (by omega)
  have n27 : ∀ k, k < 8 → k < t.val + 1 → _ := fun k a _ => h27 k a (by omega)
  have n28 : ∀ k, k < 8 → k < t.val + 1 → _ := fun k a _ => h28 k a (by omega)
  have inb5 : ∀ a, (![t.val / 2, 0] : Fin 2 → ℕ) a + S1x2048.size a ≤ S8x2048.size a := by
    have := k0_off5_inb (grid0.coords t); rw [k0_off5_eq, c0] at this; exact this
  have e9 : (VecWindow.window x25 (k0_off5 (grid0.coords t)) S1x2048.size (k0_off5_inb (grid0.coords t))) = WW m c (t.val / 2) :=
    (window_off (s := S8x2048) (off := k0_off5 (grid0.coords t)) (off' := ![t.val / 2, 0]) _ (by rw [k0_off5_eq, c0]) _ inb5).trans (n25 (t.val / 2) (by omega) (by omega) inb5)
  obtain ⟨e26, e29, e30⟩ := hodd h2
  subst e26
  subst e30
  have e15 : VecWindow.window (k0_pay39 (WW m c (t.val / 2))) (k0_off6 (grid0.coords t)) S1024x1.size (k0_off6_inb (grid0.coords t)) = V15 m c t.val :=
    window_off (s := S2048x1) (off := k0_off6 (grid0.coords t)) (off' := k0_off6 (grid0.coords (pt t.val))) _ (by rw [pt_val]) _ _
  rw [e9]
  rw [e15]
  have e7 : k0_off7 (grid0.coords t) = ![0, 1024] := by rw [k0_off7_eq, c1, h2]
  rw [e7]
  have inb29 : ∀ a, (![0, 0] : Fin 2 → ℕ) a + S4x1024.size a ≤ S4x2048.size a := by intro a; fin_cases a <;> decide
  have eFW : VecWindow.put (s := S4x2048) x29 ![0, 1024] S4x1024.size (FP m c t.val) = FW m c t.val :=
    put_tile x29 _ _ _ inb29 (e29 inb29)
  have inb8 : ∀ a, (![0, 2048 * (t.val / 2)] : Fin 2 → ℕ) a + S4x2048.size a ≤ S4x16384.size a := by
    intro a; fin_cases a
    · exact Nat.le_refl 4
    · show 2048 * (t.val / 2) + 2048 ≤ 16384; omega
  have e8 : (VecWindow.window x27 (k0_off8 (grid0.coords t)) S4x2048.size (k0_off8_inb (grid0.coords t) hc3)) = CW m c (t.val / 2) :=
    (window_off (s := S4x16384) (off := k0_off8 (grid0.coords t)) (off' := ![0, 2048 * (t.val / 2)]) _ (by rw [k0_off8_eq, c0]) _ inb8).trans (n27 (t.val / 2) (by omega) (by omega) inb8)
  have inb9 : ∀ a, (![2048 * (t.val / 2), 0] : Fin 2 → ℕ) a + S2048x64.size a ≤ S16384x64.size a := by
    intro a; fin_cases a
    · show 2048 * (t.val / 2) + 2048 ≤ 16384; omega
    · exact Nat.le_refl 64
  have e77 : (VecWindow.window x28 (k0_off9 (grid0.coords t)) S2048x64.size (k0_off9_inb (grid0.coords t) hc3)) = k0_pay32 (MN m c (t.val / 2)) :=
    (window_off (s := S16384x64) (off := k0_off9 (grid0.coords t)) (off' := ![2048 * (t.val / 2), 0]) _ (by rw [k0_off9_eq, c0]) _ inb9).trans (n28 (t.val / 2) (by omega) (by omega) inb9)
  rw [show (k0_pay1 (k0_pay41 (WW m c (t.val / 2)) (I13 m c t.val) (V15 m c t.val) (I11 m c t.val)) (k0_pay43 (I14 m c t.val)) (constant S4x1024 .f32 0x00000000#32)) = FP m c t.val from rfl, eFW, e8, e77]
  refine ⟨rfl, rfl, rfl, rfl, n25, n27, n28, fun h => absurd h (by omega)⟩

set_option maxHeartbeats 1000000 in
/-- What the body leaves at such a point is what is stated, and the carried buffers are again as stated. (The body at the last point.) -/
theorem step_E (t : Fin cfg0.N) (h8 : ¬ t.val < 8) (h2 : t.val % 2 = 1) (h15 : t.val = 15) (hc3 : k0_cond3 (grid0.coords t) = 1#1) (x25 : Vec F S8x2048 .f32) (x26 : Vec F S2048x1 .f32) (x27 : Vec F S4x16384 .f32) (x28 : Vec F S16384x64 .f32)
    (x29 x30 : Vec F S4x2048 .f32) (hI : Inv m c t.val x25 x26 x27 x28 x29 x30) :
    (k0_pay42 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) = O19 m c t.val
    ∧ (k0_pay35 (I15 m c t.val) (VecWindow.window x27 (k0_off8 (grid0.coords t)) S4x2048.size (k0_off8_inb (grid0.coords t) hc3)) (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val))) = O21 m c t.val
    ∧ (k0_pay36 (I15 m c t.val) (VecWindow.window x27 (k0_off8 (grid0.coords t)) S4x2048.size (k0_off8_inb (grid0.coords t) hc3)) (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val)) (VecWindow.window x28 (k0_off9 (grid0.coords t)) S2048x64.size (k0_off9_inb (grid0.coords t) hc3))) = O22 m c t.val
    ∧ (k0_pay3 (VecWindow.window x25 (k0_off5 (grid0.coords t)) S1x2048.size (k0_off5_inb (grid0.coords t))) (k0_pay37 (I15 m c t.val) (VecWindow.window x27 (k0_off8 (grid0.coords t)) S4x2048.size (k0_off8_inb (grid0.coords t) hc3)) (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val))) (k0_pay38 (I16 m c t.val)) (I17 m c t.val)) = O23 m c t.val
    ∧ (k0_pay4 x25 (I18 m c t.val) x25) = O24 m c t.val
    ∧ Inv m c (t.val + 1) x25 x26 x27 x28 (VecWindow.put x29 (k0_off7 (grid0.coords t)) S4x1024.size (k0_pay1 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) (k0_pay43 (I14 m c t.val)) (constant S4x1024 .f32 0x00000000#32))) (k0_pay2 (k0_pay41 (VecWindow.window x25 (k0_off5 (grid0.coords t)) S1x2048.size (k0_off5_inb (grid0.coords t))) (I13 m c t.val) (VecWindow.window x26 (k0_off6 (grid0.coords t)) S1024x1.size (k0_off6_inb (grid0.coords t))) (I11 m c t.val)) x30 (I12 m c t.val)) := by
  obtain ⟨h25, h27, h28, hodd⟩ := hI
  have ht : t.val < 16 := Nat.lt_of_lt_of_eq t.isLt N_0
  have c0 := co0 t
  have c1 := co1 t
  have n25 : ∀ k, k < 8 → k < t.val + 1 → _ := fun k a _ => h25 k a (by omega)
  have n27 : ∀ k, k < 8 → k < t.val + 1 → _ := fun k a _ => h27 k a (by omega)
  have n28 : ∀ k, k < 8 → k < t.val + 1 → _ := fun k a _ => h28 k a (by omega)
  have inb5 : ∀ a, (![t.val / 2, 0] : Fin 2 → ℕ) a + S1x2048.size a ≤ S8x2048.size a := by
    have := k0_off5_inb (grid0.coords t); rw [k0_off5_eq, c0] at this; exact this
  have e9 : (VecWindow.window x25 (k0_off5 (grid0.coords t)) S1x2048.size (k0_off5_inb (grid0.coords t))) = WW m c (t.val / 2) :=
    (window_off (s := S8x2048) (off := k0_off5 (grid0.coords t)) (off' := ![t.val / 2, 0]) _ (by rw [k0_off5_eq, c0]) _ inb5).trans (n25 (t.val / 2) (by omega) (by omega) inb5)
  obtain ⟨e26, e29, e30⟩ := hodd h2
  subst e26
  subst e30
  have e15 : VecWindow.window (k0_pay39 (WW m c (t.val / 2))) (k0_off6 (grid0.coords t)) S1024x1.size (k0_off6_inb (grid0.coords t)) = V15 m c t.val :=
    window_off (s := S2048x1) (off := k0_off6 (grid0.coords t)) (off' := k0_off6 (grid0.coords (pt t.val))) _ (by rw [pt_val]) _ _
  rw [e9]
  rw [e15]
  have e7 : k0_off7 (grid0.coords t) = ![0, 1024] := by rw [k0_off7_eq, c1, h2]
  rw [e7]
  have inb29 : ∀ a, (![0, 0] : Fin 2 → ℕ) a + S4x1024.size a ≤ S4x2048.size a := by intro a; fin_cases a <;> decide
  have eFW : VecWindow.put (s := S4x2048) x29 ![0, 1024] S4x1024.size (FP m c t.val) = FW m c t.val :=
    put_tile x29 _ _ _ inb29 (e29 inb29)
  have inb8 : ∀ a, (![0, 2048 * (t.val / 2)] : Fin 2 → ℕ) a + S4x2048.size a ≤ S4x16384.size a := by
    intro a; fin_cases a
    · exact Nat.le_refl 4
    · show 2048 * (t.val / 2) + 2048 ≤ 16384; omega
  have e8 : (VecWindow.window x27 (k0_off8 (grid0.coords t)) S4x2048.size (k0_off8_inb (grid0.coords t) hc3)) = CW m c (t.val / 2) :=
    (window_off (s := S4x16384) (off := k0_off8 (grid0.coords t)) (off' := ![0, 2048 * (t.val / 2)]) _ (by rw [k0_off8_eq, c0]) _ inb8).trans (n27 (t.val / 2) (by omega) (by omega) inb8)
  have inb9 : ∀ a, (![2048 * (t.val / 2), 0] : Fin 2 → ℕ) a + S2048x64.size a ≤ S16384x64.size a := by
    intro a; fin_cases a
    · show 2048 * (t.val / 2) + 2048 ≤ 16384; omega
    · exact Nat.le_refl 64
  have e77 : (VecWindow.window x28 (k0_off9 (grid0.coords t)) S2048x64.size (k0_off9_inb (grid0.coords t) hc3)) = k0_pay32 (MN m c (t.val / 2)) :=
    (window_off (s := S16384x64) (off := k0_off9 (grid0.coords t)) (off' := ![2048 * (t.val / 2), 0]) _ (by rw [k0_off9_eq, c0]) _ inb9).trans (n28 (t.val / 2) (by omega) (by omega) inb9)
  rw [show (k0_pay1 (k0_pay41 (WW m c (t.val / 2)) (I13 m c t.val) (V15 m c t.val) (I11 m c t.val)) (k0_pay43 (I14 m c t.val)) (constant S4x1024 .f32 0x00000000#32)) = FP m c t.val from rfl, eFW, e8, e77]
  refine ⟨rfl, rfl, rfl, rfl, ?_, n25, n27, n28, fun h => absurd h (by omega)⟩
  rw [wall_eq m c t.val (by omega) x25 h25]; rfl

end Cert.KernelIdeal.Body

end
-- ==== Proof.KernelIdeal.RunA.lean ====
/- The body at an even point of the first half. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Vals

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an even point of the first half. -/
theorem run_A (c : Dev nD) (i : grid0.Coords) (arg2 : Memref sig .tc .vmem S1x2048x64 .f32) (harg2 : arg2.IsWhole) (arg3 : Memref sig .tc .vmem S1x1x2048 .f32) (harg3 : arg3.IsWhole) (arg4 : Memref sig .tc .vmem S1x2048x1 .f32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x4x64 .f32) (harg11 : arg11.IsWhole) (arg12 : Memref sig .tc .vmem S1x4x1 .f32) (harg12 : arg12.IsWhole) (arg13 : Memref sig .tc .vmem S1x1024x2048 .f32) (harg13 : arg13.IsWhole) (arg14 : Memref sig .tc .vmem S1x4x1024 .f32) (harg14 : arg14.IsWhole) (arg15 : Memref sig .tc .vmem S1x1x2048 .f32) (harg15 : arg15.IsWhole) (arg16 : Memref sig .tc .vmem S1x4x2048 .f32) (harg16 : arg16.IsWhole) (arg17 : Memref sig .tc .vmem S1x4x3 .f32) (harg17 : arg17.IsWhole) (arg18 : Memref sig .tc .vmem S1x1x2048 .f32) (harg18 : arg18.IsWhole) (arg19 : Memref sig .tc .vmem S1x1x2048 .f32) (harg19 : arg19.IsWhole) (arg20 : Memref sig .tc .vmem S8x1x2048 .f32) (harg20 : arg20.IsWhole) (arg21 : Memref sig .tc .vmem S1x1024x2048 .f32) (harg21 : arg21.IsWhole) (arg22 : Memref sig .tc .vmem S1x2048x64 .f32) (harg22 : arg22.IsWhole) (arg23 : Memref sig .tc .vmem S1x4x2048 .f32) (harg23 : arg23.IsWhole) (arg24 : Memref sig .tc .vmem S1x4x64 .f32) (harg24 : arg24.IsWhole) (arg25 : Memref sig .tc .vmem S1x1x2048 .f32) (harg25 : arg25.IsWhole) (arg26 : Memref sig .tc .vmem S8x1x2048 .f32) (harg26 : arg26.IsWhole) (arg27 : Memref sig .tc .vmem S8x2048 .f32) (harg27 : arg27.IsWhole) (arg28 : Memref sig .tc .vmem S2048x1 .f32) (harg28 : arg28.IsWhole) (arg29 : Memref sig .tc .vmem S4x16384 .f32) (harg29 : arg29.IsWhole) (arg30 : Memref sig .tc .vmem S16384x64 .f32) (harg30 : arg30.IsWhole) (arg31 : Memref sig .tc .vmem S4x2048 .f32) (harg31 : arg31.IsWhole) (arg32 : Memref sig .tc .vmem S4x2048 .f32) (harg32 : arg32.IsWhole) (hc1 : k0_cond1 i = 1#1) (hc2 : k0_cond2 i = 1#1) (hc3 : ¬k0_cond3 i = 1#1) (hc4 : ¬k0_cond4 i = 1#1)
    (x0 : Vec F S1x2048x64 .f32) (x1 : Vec F S1x1x2048 .f32) (x2 : Vec F S1x2048x1 .f32) (x3 : Vec F S1x1x64 .f32) (x4 : Vec F S1x1x1 .f32) (x5 : Vec F S1x1x1 .f32) (x6 : Vec F S1x1x1 .f32) (x7 : Vec F S1x1x64 .f32) (x8 : Vec F S1x1x64 .f32) (x9 : Vec F S1x4x64 .f32) (x10 : Vec F S1x4x1 .f32) (x11 : Vec F S1x1024x2048 .f32) (x12 : Vec F S1x4x1024 .f32) (x13 : Vec F S1x1x2048 .f32) (x14 : Vec F S1x4x2048 .f32) (x19 : Vec F S1x1024x2048 .f32) (x20 : Vec F S1x2048x64 .f32) (x25 : Vec F S8x2048 .f32) (x26 : Vec F S2048x1 .f32) (x27 : Vec F S4x16384 .f32) (x28 : Vec F S16384x64 .f32) (x29 : Vec F S4x2048 .f32) (x30 : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg21 fullShare x19 ∗ owns (c : Thread nD τ) arg22 fullShare x20 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg21 fullShare (k0_pay42 (VecWindow.window (VecWindow.put x25 (k0_off1 i) S1x2048.size (wwV x0 x1 x2 x3 x4 x5 x6)) (k0_off5 i) S1x2048.size (k0_off5_inb i)) x13 (VecWindow.window (k0_pay39 (VecWindow.window (VecWindow.put x25 (k0_off1 i) S1x2048.size (wwV x0 x1 x2 x3 x4 x5 x6)) (k0_off4 i) S1x2048.size (k0_off4_inb i hc2))) (k0_off6 i) S1024x1.size (k0_off6_inb i)) x11) ∗ owns (c : Thread nD τ) arg22 fullShare (memB x0 x1 x2 x3 x4 x5 x6 x7 x8) ∗ owns (c : Thread nD τ) arg27 fullShare (VecWindow.put x25 (k0_off1 i) S1x2048.size (wwV x0 x1 x2 x3 x4 x5 x6)) ∗ owns (c : Thread nD τ) arg28 fullShare (k0_pay39 (VecWindow.window (VecWindow.put x25 (k0_off1 i) S1x2048.size (wwV x0 x1 x2 x3 x4 x5 x6)) (k0_off4 i) S1x2048.size (k0_off4_inb i hc2))) ∗ owns (c : Thread nD τ) arg29 fullShare (VecWindow.put x27 (k0_off3 i) S4x2048.size (cwV (memV x0 x1 x2 x3 x4 x5 x6 x7 x8) x9 x10)) ∗ owns (c : Thread nD τ) arg30 fullShare (VecWindow.put x28 (k0_off2 i) S2048x64.size (k0_pay32 (memV x0 x1 x2 x3 x4 x5 x6 x7 x8))) ∗ owns (c : Thread nD τ) arg31 fullShare (VecWindow.put x29 (k0_off7 i) S4x1024.size (k0_pay1 (k0_pay41 (VecWindow.window (VecWindow.put x25 (k0_off1 i) S1x2048.size (wwV x0 x1 x2 x3 x4 x5 x6)) (k0_off5 i) S1x2048.size (k0_off5_inb i)) x13 (VecWindow.window (k0_pay39 (VecWindow.window (VecWindow.put x25 (k0_off1 i) S1x2048.size (wwV x0 x1 x2 x3 x4 x5 x6)) (k0_off4 i) S1x2048.size (k0_off4_inb i hc2))) (k0_off6 i) S1024x1.size (k0_off6_inb i)) x11) (k0_pay43 x14) (constant S4x1024 .f32 0x00000000#32))) ∗ owns (c : Thread nD τ) arg32 fullShare (k0_pay2 (k0_pay41 (VecWindow.window (VecWindow.put x25 (k0_off1 i) S1x2048.size (wwV x0 x1 x2 x3 x4 x5 x6)) (k0_off5 i) S1x2048.size (k0_off5_inb i)) x13 (VecWindow.window (k0_pay39 (VecWindow.window (VecWindow.put x25 (k0_off1 i) S1x2048.size (wwV x0 x1 x2 x3 x4 x5 x6)) (k0_off4 i) S1x2048.size (k0_off4_inb i hc2))) (k0_off6 i) S1024x1.size (k0_off6_inb i)) x11) k0_pay40 x12)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__body_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f19, %hf19, H19⟩, ⟨%f20, %hf20, H20⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg21.eq_unread hf19; obtain rfl := harg22.eq_unread hf20; obtain rfl := harg27.eq_unread hf25; obtain rfl := harg28.eq_unread hf26; obtain rfl := harg29.eq_unread hf27; obtain rfl := harg30.eq_unread hf28; obtain rfl := harg31.eq_unread hf29; obtain rfl := harg32.eq_unread hf30
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [H10]
  · iexists _; isplitr
    swap; · iexact H10
    ipureintro; exact harg12.read_unread _
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H19]
  · iexists _; isplitr
    swap; · iexact H19
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  isplitl [H20]
  · iexists _; isplitr
    swap; · iexact H20
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  isplitl [H25]
  · iexists _; isplitr
    swap; · iexact H25
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  isplitl [H26]
  · iexists _; isplitr
    swap; · iexact H26
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  isplitl [H27]
  · iexists _; isplitr
    swap; · iexact H27
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  isplitl [H28]
  · iexists _; isplitr
    swap; · iexact H28
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  isplitl [H29]
  · iexists _; isplitr
    swap; · iexact H29
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl
  · iexists _; isplitr
    swap; · iexact H30
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf19, hf20, hf25, hf26, hf27, hf28, hf29, hf30]; first | done | rfl

end Cert.KernelIdeal.Body

end
-- ==== Proof.KernelIdeal.RunB.lean ====
/- The body at an odd point of the first half. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Vals

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd point of the first half. -/
theorem run_B (c : Dev nD) (i : grid0.Coords) (arg2 : Memref sig .tc .vmem S1x2048x64 .f32) (harg2 : arg2.IsWhole) (arg3 : Memref sig .tc .vmem S1x1x2048 .f32) (harg3 : arg3.IsWhole) (arg4 : Memref sig .tc .vmem S1x2048x1 .f32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x4x64 .f32) (harg11 : arg11.IsWhole) (arg12 : Memref sig .tc .vmem S1x4x1 .f32) (harg12 : arg12.IsWhole) (arg13 : Memref sig .tc .vmem S1x1024x2048 .f32) (harg13 : arg13.IsWhole) (arg14 : Memref sig .tc .vmem S1x4x1024 .f32) (harg14 : arg14.IsWhole) (arg15 : Memref sig .tc .vmem S1x1x2048 .f32) (harg15 : arg15.IsWhole) (arg16 : Memref sig .tc .vmem S1x4x2048 .f32) (harg16 : arg16.IsWhole) (arg17 : Memref sig .tc .vmem S1x4x3 .f32) (harg17 : arg17.IsWhole) (arg18 : Memref sig .tc .vmem S1x1x2048 .f32) (harg18 : arg18.IsWhole) (arg19 : Memref sig .tc .vmem S1x1x2048 .f32) (harg19 : arg19.IsWhole) (arg20 : Memref sig .tc .vmem S8x1x2048 .f32) (harg20 : arg20.IsWhole) (arg21 : Memref sig .tc .vmem S1x1024x2048 .f32) (harg21 : arg21.IsWhole) (arg22 : Memref sig .tc .vmem S1x2048x64 .f32) (harg22 : arg22.IsWhole) (arg23 : Memref sig .tc .vmem S1x4x2048 .f32) (harg23 : arg23.IsWhole) (arg24 : Memref sig .tc .vmem S1x4x64 .f32) (harg24 : arg24.IsWhole) (arg25 : Memref sig .tc .vmem S1x1x2048 .f32) (harg25 : arg25.IsWhole) (arg26 : Memref sig .tc .vmem S8x1x2048 .f32) (harg26 : arg26.IsWhole) (arg27 : Memref sig .tc .vmem S8x2048 .f32) (harg27 : arg27.IsWhole) (arg28 : Memref sig .tc .vmem S2048x1 .f32) (harg28 : arg28.IsWhole) (arg29 : Memref sig .tc .vmem S4x16384 .f32) (harg29 : arg29.IsWhole) (arg30 : Memref sig .tc .vmem S16384x64 .f32) (harg30 : arg30.IsWhole) (arg31 : Memref sig .tc .vmem S4x2048 .f32) (harg31 : arg31.IsWhole) (arg32 : Memref sig .tc .vmem S4x2048 .f32) (harg32 : arg32.IsWhole) (hc1 : k0_cond1 i = 1#1) (hc2 : ¬k0_cond2 i = 1#1) (hc3 : k0_cond3 i = 1#1) (hc4 : ¬k0_cond4 i = 1#1)
    (x0 : Vec F S1x2048x64 .f32) (x1 : Vec F S1x1x2048 .f32) (x2 : Vec F S1x2048x1 .f32) (x3 : Vec F S1x1x64 .f32) (x4 : Vec F S1x1x1 .f32) (x5 : Vec F S1x1x1 .f32) (x6 : Vec F S1x1x1 .f32) (x7 : Vec F S1x1x64 .f32) (x8 : Vec F S1x1x64 .f32) (x9 : Vec F S1x4x64 .f32) (x10 : Vec F S1x4x1 .f32) (x11 : Vec F S1x1024x2048 .f32) (x12 : Vec F S1x4x1024 .f32) (x13 : Vec F S1x1x2048 .f32) (x14 : Vec F S1x4x2048 .f32) (x15 : Vec F S1x4x3 .f32) (x16 : Vec F S1x1x2048 .f32) (x17 : Vec F S1x1x2048 .f32) (x19 : Vec F S1x1024x2048 .f32) (x20 : Vec F S1x2048x64 .f32) (x21 : Vec F S1x4x2048 .f32) (x22 : Vec F S1x4x64 .f32) (x23 : Vec F S1x1x2048 .f32) (x25 : Vec F S8x2048 .f32) (x26 : Vec F S2048x1 .f32) (x27 : Vec F S4x16384 .f32) (x28 : Vec F S16384x64 .f32) (x29 : Vec F S4x2048 .f32) (x30 : Vec F S4x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg21 fullShare (k0_pay42 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) ∗ owns (c : Thread nD τ) arg22 fullShare (memB x0 x1 x2 x3 x4 x5 x6 x7 x8) ∗ owns (c : Thread nD τ) arg23 fullShare (k0_pay35 x15 (VecWindow.window (VecWindow.put x27 (k0_off3 i) S4x2048.size (cwV (memV x0 x1 x2 x3 x4 x5 x6 x7 x8) x9 x10)) (k0_off8 i) S4x2048.size (k0_off8_inb i hc3)) (VecWindow.put x29 (k0_off7 i) S4x1024.size (k0_pay1 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) x30 x12)) ∗ owns (c : Thread nD τ) arg24 fullShare (k0_pay36 x15 (VecWindow.window (VecWindow.put x27 (k0_off3 i) S4x2048.size (cwV (memV x0 x1 x2 x3 x4 x5 x6 x7 x8) x9 x10)) (k0_off8 i) S4x2048.size (k0_off8_inb i hc3)) (VecWindow.put x29 (k0_off7 i) S4x1024.size (k0_pay1 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) x30 x12) (VecWindow.window (VecWindow.put x28 (k0_off2 i) S2048x64.size (k0_pay32 (memV x0 x1 x2 x3 x4 x5 x6 x7 x8))) (k0_off9 i) S2048x64.size (k0_off9_inb i hc3))) ∗ owns (c : Thread nD τ) arg25 fullShare (k0_pay3 (VecWindow.window (VecWindow.put x25 (k0_off1 i) S1x2048.size (wwV x0 x1 x2 x3 x4 x5 x6)) (k0_off5 i) S1x2048.size (k0_off5_inb i)) (k0_pay37 x15 (VecWindow.window (VecWindow.put x27 (k0_off3 i) S4x2048.size (cwV (memV x0 x1 x2 x3 x4 x5 x6 x7 x8) x9 x10)) (k0_off8 i) S4x2048.size (k0_off8_inb i hc3)) (VecWindow.put x29 (k0_off7 i) S4x1024.size (k0_pay1 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) x30 x12)) (k0_pay38 x16) x17) ∗ owns (c : Thread nD τ) arg27 fullShare (VecWindow.put x25 (k0_off1 i) S1x2048.size (wwV x0 x1 x2 x3 x4 x5 x6)) ∗ owns (c : Thread nD τ) arg28 fullShare x26 ∗ owns (c : Thread nD τ) arg29 fullShare (VecWindow.put x27 (k0_off3 i) S4x2048.size (cwV (memV x0 x1 x2 x3 x4 x5 x6 x7 x8) x9 x10)) ∗ owns (c : Thread nD τ) arg30 fullShare (VecWindow.put x28 (k0_off2 i) S2048x64.size (k0_pay32 (memV x0 x1 x2 x3 x4 x5 x6 x7 x8))) ∗ owns (c : Thread nD τ) arg31 fullShare (VecWindow.put x29 (k0_off7 i) S4x1024.size (k0_pay1 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) (k0_pay43 x14) (constant S4x1024 .f32 0x00000000#32))) ∗ owns (c : Thread nD τ) arg32 fullShare (k0_pay2 (k0_pay41 (VecWindow.window (VecWindow.put x25 (k0_off1 i) S1x2048.size (wwV x0 x1 x2 x3 x4 x5 x6)) (k0_off5 i) S1x2048.size (k0_off5_inb i)) x13 (VecWindow.window x26 (k0_off6 i) S1024x1.size (k0_off6_inb i)) x11) x30 x12)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__body_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f19, %hf19, H19⟩, ⟨%f20, %hf20, H20⟩, ⟨%f21, %hf21, H21⟩, ⟨%f22, %hf22, H22⟩, ⟨%f23, %hf23, H23⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg21.eq_unread hf19; obtain rfl := harg22.eq_unread hf20; obtain rfl := harg23.eq_unread hf21; obtain rfl := harg24.eq_unread hf22; obtain rfl := harg25.eq_unread hf23; obtain rfl := harg27.eq_unread hf25; obtain rfl := harg28.eq_unread hf26; obtain rfl := harg29.eq_unread hf27; obtain rfl := harg30.eq_unread hf28; obtain rfl := harg31.eq_unread hf29; obtain rfl := harg32.eq_unread hf30
  sl_exec (disch := first | sl_exact hc1 | sl_exact hc2 | sl_exact hc3 | sl_exact hc4)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [H10]
  · iexists _; isplitr
    swap; · iexact H10
    ipureintro; exact harg12.read_unread _
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H15]
  · iexists _; isplitr
    swap; · iexact H15
    ipureintro; exact harg17.read_unread _
  isplitl [H16]
  · iexists _; isplitr
    swap; · iexact H16
    ipureintro; exact harg18.read_unread _
  isplitl [H17]
  · iexists _; isplitr
    swap; · iexact H17
    ipureintro; exact harg19.read_unread _
  isplitl [H19]
  · iexists _; isplitr
    swap; · iexact H19
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H20]
  · iexists _; isplitr
    swap; · iexact H20
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H21]
  · iexists _; isplitr
    swap; · iexact H21
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H22]
  · iexists _; isplitr
    swap; · iexact H22
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H23]
  · iexists _; isplitr
    swap; · iexact H23
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H25]
  · iexists _; isplitr
    swap; · iexact H25
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H26]
  · iexists _; isplitr
    swap; · iexact H26
    ipureintro; exact harg28.read_unread _
  isplitl [H27]
  · iexists _; isplitr
    swap; · iexact H27
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H28]
  · iexists _; isplitr
    swap; · iexact H28
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  isplitl [H29]
  · iexists _; isplitr
    swap; · iexact H29
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl
  · iexists _; isplitr
    swap; · iexact H30
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf0, hf1, hf2, hf3, hf4, hf5, hf6, hf7, hf8, hf9, hf10, hf11, hf12, hf13, hf14, hf15, hf16, hf17, hf19, hf20, hf21, hf22, hf23, hf25, hf26, hf27, hf28, hf29, hf30]; first | done | rfl

end Cert.KernelIdeal.Body

end
-- ==== Proof.KernelIdeal.RunC.lean ====
/- The body at an even point of the second half. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Vals

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an even point of the second half. -/
theorem run_C (c : Dev nD) (i : grid0.Coords) (arg2 : Memref sig .tc .vmem S1x2048x64 .f32) (harg2 : arg2.IsWhole) (arg3 : Memref sig .tc .vmem S1x1x2048 .f32) (harg3 : arg3.IsWhole) (arg4 : Memref sig .tc .vmem S1x2048x1 .f32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x4x64 .f32) (harg11 : arg11.IsWhole) (arg12 : Memref sig .tc .vmem S1x4x1 .f32) (harg12 : arg12.IsWhole) (arg13 : Memref sig .tc .vmem S1x1024x2048 .f32) (harg13 : arg13.IsWhole) (arg14 : Memref sig .tc .vmem S1x4x1024 .f32) (harg14 : arg14.IsWhole) (arg15 : Memref sig .tc .vmem S1x1x2048 .f32) (harg15 : arg15.IsWhole) (arg16 : Memref sig .tc .vmem S1x4x2048 .f32) (harg16 : arg16.IsWhole) (arg17 : Memref sig .tc .vmem S1x4x3 .f32) (harg17 : arg17.IsWhole) (arg18 : Memref sig .tc .vmem S1x1x2048 .f32) (harg18 : arg18.IsWhole) (arg19 : Memref sig .tc .vmem S1x1x2048 .f32) (harg19 : arg19.IsWhole) (arg20 : Memref sig .tc .vmem S8x1x2048 .f32) (harg20 : arg20.IsWhole) (arg21 : Memref sig .tc .vmem S1x1024x2048 .f32) (harg21 : arg21.IsWhole) (arg22 : Memref sig .tc .vmem S1x2048x64 .f32) (harg22 : arg22.IsWhole) (arg23 : Memref sig .tc .vmem S1x4x2048 .f32) (harg23 : arg23.IsWhole) (arg24 : Memref sig .tc .vmem S1x4x64 .f32) (harg24 : arg24.IsWhole) (arg25 : Memref sig .tc .vmem S1x1x2048 .f32) (harg25 : arg25.IsWhole) (arg26 : Memref sig .tc .vmem S8x1x2048 .f32) (harg26 : arg26.IsWhole) (arg27 : Memref sig .tc .vmem S8x2048 .f32) (harg27 : arg27.IsWhole) (arg28 : Memref sig .tc .vmem S2048x1 .f32) (harg28 : arg28.IsWhole) (arg29 : Memref sig .tc .vmem S4x16384 .f32) (harg29 : arg29.IsWhole) (arg30 : Memref sig .tc .vmem S16384x64 .f32) (harg30 : arg30.IsWhole) (arg31 : Memref sig .tc .vmem S4x2048 .f32) (harg31 : arg31.IsWhole) (arg32 : Memref sig .tc .vmem S4x2048 .f32) (harg32 : arg32.IsWhole) (hc1 : ¬k0_cond1 i = 1#1) (hc2 : k0_cond2 i = 1#1) (hc3 : ¬k0_cond3 i = 1#1) (hc4 : ¬k0_cond4 i = 1#1)
    (x11 : Vec F S1x1024x2048 .f32) (x12 : Vec F S1x4x1024 .f32) (x13 : Vec F S1x1x2048 .f32) (x14 : Vec F S1x4x2048 .f32) (x19 : Vec F S1x1024x2048 .f32) (x25 : Vec F S8x2048 .f32) (x26 : Vec F S2048x1 .f32) (x29 : Vec F S4x2048 .f32) (x30 : Vec F S4x2048 .f32) (E : Set ℕ) (K : PUnit → sProp 𝕄) :
    iprop(owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg21 fullShare x19 ∗ owns (c : Thread nD τ) arg27 fullShare x25 ∗ owns (c : Thread nD τ) arg28 fullShare x26 ∗ owns (c : Thread nD τ) arg31 fullShare x29 ∗ owns (c : Thread nD τ) arg32 fullShare x30 ∗ (iprop(owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg21 fullShare (k0_pay42 (VecWindow.window x25 (k0_off5 i) S1x2048.size (k0_off5_inb i)) x13 (VecWindow.window (k0_pay39 (VecWindow.window x25 (k0_off4 i) S1x2048.size (k0_off4_inb i hc2))) (k0_off6 i) S1024x1.size (k0_off6_inb i)) x11) ∗ owns (c : Thread nD τ) arg27 fullShare x25 ∗ owns (c : Thread nD τ) arg28 fullShare (k0_pay39 (VecWindow.window x25 (k0_off4 i) S1x2048.size (k0_off4_inb i hc2))) ∗ owns (c : Thread nD τ) arg31 fullShare (VecWindow.put x29 (k0_off7 i) S4x1024.size (k0_pay1 (k0_pay41 (VecWindow.window x25 (k0_off5 i) S1x2048.size (k0_off5_inb i)) x13 (VecWindow.window (k0_pay39 (VecWindow.window x25 (k0_off4 i) S1x2048.size (k0_off4_inb i hc2))) (k0_off6 i) S1024x1.size (k0_off6_inb i)) x11) (k0_pay43 x14) (constant S4x1024 .f32 0x00000000#32))) ∗ owns (c : Thread nD τ) arg32 fullShare (k0_pay2 (k0_pay41 (VecWindow.window x25 (k0_off5 i) S1x2048.size (k0_off5_inb i)) x13 (VecWindow.window (k0_pay39 (VecWindow.window x25 (k0_off4 i) S1x2048.size (k0_off4_inb i hc2))) (k0_off6 i) S1024x1.size (k0_off6_inb i)) x11) k0_pay40 x12)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__body_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold cc0__body_skel
  unfold owns
  iintro ⟨⟨%f11, %hf11, H11⟩, ⟨%f12, %hf12, H12⟩, ⟨%f13, %hf13, H13⟩, ⟨%f14, %hf14, H14⟩, ⟨%f19, %hf19, H19⟩, ⟨%f25, %hf25, H25⟩, ⟨%f26, %hf26, H26⟩, ⟨%f29, %hf29, H29⟩, ⟨%f30, %hf30, H30⟩, Hk⟩
  obtain rfl := harg13.eq_unread hf11; obtain rfl := harg14.eq_unread hf12; obtain rfl := harg15.eq_unread hf13; obtain rfl := harg16.eq_unread hf14; obtain rfl := harg21.eq_unread hf19; obtain rfl := harg27.eq_unread hf25; obtain rfl := harg28.eq_unread hf26; obtain rfl := harg31.eq_unread hf29; obtain rfl := harg32.eq_unread hf30
  sl_exec (disch := first | sl_exact hc1 | sl_exact hc2 | sl_exact hc3 | sl_exact hc4)
  sl_step
  iapply Hk
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H19]
  · iexists _; isplitr
    swap; · iexact H19
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf19, hf25, hf26, hf29, hf30]; first | done | rfl
  isplitl [H25]
  · iexists _; isplitr
    swap; · iexact H25
    ipureintro; exact harg27.read_unread _
  isplitl [H26]
  · iexists _; isplitr
    swap; · iexact H26
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf19, hf25, hf26, hf29, hf30]; first | done | rfl
  isplitl [H29]
  · iexists _; isplitr
    swap; · iexact H29
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf19, hf25, hf26, hf29, hf30]; first | done | rfl
  · iexists _; isplitr
    swap; · iexact H30
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf19, hf25, hf26, hf29, hf30]; first | done | rfl

end Cert.KernelIdeal.Body

end
-- ==== Proof.KernelIdeal.RunD.lean ====
/- The body at an odd point of the second half, but the last. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Vals

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd point of the second half, but the last. -/
theorem run_D (c : Dev nD) (i : grid0.Coords) (arg2 : Memref sig .tc .vmem S1x2048x64 .f32) (harg2 : arg2.IsWhole) (arg3 : Memref sig .tc .vmem S1x1x2048 .f32) (harg3 : arg3.IsWhole) (arg4 : Memref sig .tc .vmem S1x2048x1 .f32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x4x64 .f32) (harg11 : arg11.IsWhole) (arg12 : Memref sig .tc .vmem S1x4x1 .f32) (harg12 : arg12.IsWhole) (arg13 : Memref sig .tc .vmem S1x1024x2048 .f32) (harg13 : arg13.IsWhole) (arg14 : Memref sig .tc .vmem S1x4x1024 .f32) (harg14 : arg14.IsWhole) (arg15 : Memref sig .tc .vmem S1x1x2048 .f32) (harg15 : arg15.IsWhole) (arg16 : Memref sig .tc .vmem S1x4x2048 .f32) (harg16 : arg16.IsWhole) (arg17 : Memref sig .tc .vmem S1x4x3 .f32) (harg17 : arg17.IsWhole) (arg18 : Memref sig .tc .vmem S1x1x2048 .f32) (harg18 : arg18.IsWhole) (arg19 : Memref sig .tc .vmem S1x1x2048 .f32) (harg19 : arg19.IsWhole) (arg20 : Memref sig .tc .vmem S8x1x2048 .f32) (harg20 : arg20.IsWhole) (arg21 : Memref sig .tc .vmem S1x1024x2048 .f32) (harg21 : arg21.IsWhole) (arg22 : Memref sig .tc .vmem S1x2048x64 .f32) (harg22 : arg22.IsWhole) (arg23 : Memref sig .tc .vmem S1x4x2048 .f32) (harg23 : arg23.IsWhole) (arg24 : Memref sig .tc .vmem S1x4x64 .f32) (harg24 : arg24.IsWhole) (arg25 : Memref sig .tc .vmem S1x1x2048 .f32) (harg25 : arg25.IsWhole) (arg26 : Memref sig .tc .vmem S8x1x2048 .f32) (harg26 : arg26.IsWhole) (arg27 : Memref sig .tc .vmem S8x2048 .f32) (harg27 : arg27.IsWhole) (arg28 : Memref sig .tc .vmem S2048x1 .f32) (harg28 : arg28.IsWhole) (arg29 : Memref sig .tc .vmem S4x16384 .f32) (harg29 : arg29.IsWhole) (arg30 : Memref sig .tc .vmem S16384x64 .f32) (harg30 : arg30.IsWhole) (arg31 : Memref sig .tc .vmem S4x2048 .f32) (harg31 : arg31.IsWhole) (arg32 : Memref sig .tc .vmem S4x2048 .f32) (harg32 : arg32.IsWhole) (hc1 : ¬k0_cond1 i = 1#1) (hc2 : ¬k0_cond2 i = 1#1) (hc3 : k0_cond3 i = 1#1) (hc4 : ¬k0_cond4 i = 1#1)
    (x11 : Vec F S1x1024x2048 .f32) (x12 : Vec F S1x4x1024 .f32) (x13 : Vec F S1x1x2048 .f32) (x14 : Vec F S1x4x2048 .f32) (x15 : Vec F S1x4x3 .f32) (x16 : Vec F S1x1x2048 .f32) (x17 : Vec F S1x1x2048 .f32) (x19 : Vec F S1x1024x2048 .f32) (x21 : Vec F S1x4x2048 .f32) (x22 : Vec F S1x4x64 .f32) (x23 : Vec F S1x1x2048 .f32) (x25 : Vec F S8x2048 .f32) (x26 : Vec F S2048x1 .f32) (x27 : Vec F S4x16384 .f32) (x28 : Vec F S16384x64 .f32) (x29 : Vec F S4x2048 .f32) (x30 : Vec F S4x2048 .f32) (E : Set ℕ) (K : PUnit → sProp 𝕄) :
    iprop(owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg21 fullShare x19 ∗ owns (c : Thread nD τ) arg23 fullShare x21 ∗ owns (c : Thread nD τ) arg24 fullShare x22 ∗ owns (c : Thread nD τ) arg25 fullShare x23 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (iprop(owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg21 fullShare (k0_pay42 (VecWindow.window x25 (k0_off5 i) S1x2048.size (k0_off5_inb i)) x13 (VecWindow.window x26 (k0_off6 i) S1024x1.size (k0_off6_inb i)) x11) ∗ owns (c : Thread nD τ) arg23 fullShare (k0_pay35 x15 (VecWindow.window x27 (k0_off8 i) S4x2048.size (k0_off8_inb i hc3)) (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window x25 (k0_off5 i) S1x2048.size (k0_off5_inb i)) x13 (VecWindow.window x26 (k0_off6 i) S1024x1.size (k0_off6_inb i)) x11) x30 x12)) ∗ owns (c : Thread nD τ) arg24 fullShare (k0_pay36 x15 (VecWindow.window x27 (k0_off8 i) S4x2048.size (k0_off8_inb i hc3)) (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window x25 (k0_off5 i) S1x2048.size (k0_off5_inb i)) x13 (VecWindow.window x26 (k0_off6 i) S1024x1.size (k0_off6_inb i)) x11) x30 x12) (VecWindow.window x28 (k0_off9 i) S2048x64.size (k0_off9_inb i hc3))) ∗ owns (c : Thread nD τ) arg25 fullShare (k0_pay3 (VecWindow.window x25 (k0_off5 i) S1x2048.size (k0_off5_inb i)) (k0_pay37 x15 (VecWindow.window x27 (k0_off8 i) S4x2048.size (k0_off8_inb i hc3)) (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window x25 (k0_off5 i) S1x2048.size (k0_off5_inb i)) x13 (VecWindow.window x26 (k0_off6 i) S1024x1.size (k0_off6_inb i)) x11) x30 x12)) (k0_pay38 x16) x17) ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) ∗ owns (c : Thread nD τ) arg32 fullShare (k0_pay2 (k0_pay41 (VecWindow.window x25 (k0_off5 i) S1x2048.size (k0_off5_inb i)) x13 (VecWindow.window x26 (k0_off6 i) S1024x1.size (k0_off6_inb i)) x11) x30 x12)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__body_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold cc0__body_skel
  unfold owns
  iintro ⟨⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f19, %hf19, H19⟩, ⟨%f21, %hf21, H21⟩, ⟨%f22, %hf22, H22⟩, ⟨%f23, %hf23, H23⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg21.eq_unread hf19; obtain rfl := harg23.eq_unread hf21; obtain rfl := harg24.eq_unread hf22; obtain rfl := harg25.eq_unread hf23; obtain rfl := harg27.eq_unread hf25; obtain rfl := harg28.eq_unread hf26; obtain rfl := harg29.eq_unread hf27; obtain rfl := harg30.eq_unread hf28; obtain rfl := harg31.eq_unread hf29; obtain rfl := harg32.eq_unread hf30
  sl_exec (disch := first | sl_exact hc1 | sl_exact hc2 | sl_exact hc3 | sl_exact hc4)
  sl_step
  iapply Hk
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H15]
  · iexists _; isplitr
    swap; · iexact H15
    ipureintro; exact harg17.read_unread _
  isplitl [H16]
  · iexists _; isplitr
    swap; · iexact H16
    ipureintro; exact harg18.read_unread _
  isplitl [H17]
  · iexists _; isplitr
    swap; · iexact H17
    ipureintro; exact harg19.read_unread _
  isplitl [H19]
  · iexists _; isplitr
    swap; · iexact H19
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf19, hf21, hf22, hf23, hf25, hf26, hf27, hf28, hf29, hf30]; first | done | rfl
  isplitl [H21]
  · iexists _; isplitr
    swap; · iexact H21
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf19, hf21, hf22, hf23, hf25, hf26, hf27, hf28, hf29, hf30]; first | done | rfl
  isplitl [H22]
  · iexists _; isplitr
    swap; · iexact H22
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf19, hf21, hf22, hf23, hf25, hf26, hf27, hf28, hf29, hf30]; first | done | rfl
  isplitl [H23]
  · iexists _; isplitr
    swap; · iexact H23
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf19, hf21, hf22, hf23, hf25, hf26, hf27, hf28, hf29, hf30]; first | done | rfl
  isplitl [H25]
  · iexists _; isplitr
    swap; · iexact H25
    ipureintro; exact harg27.read_unread _
  isplitl [H26]
  · iexists _; isplitr
    swap; · iexact H26
    ipureintro; exact harg28.read_unread _
  isplitl [H27]
  · iexists _; isplitr
    swap; · iexact H27
    ipureintro; exact harg29.read_unread _
  isplitl [H28]
  · iexists _; isplitr
    swap; · iexact H28
    ipureintro; exact harg30.read_unread _
  isplitl [H29]
  · iexists _; isplitr
    swap; · iexact H29
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf19, hf21, hf22, hf23, hf25, hf26, hf27, hf28, hf29, hf30]; first | done | rfl
  · iexists _; isplitr
    swap; · iexact H30
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf19, hf21, hf22, hf23, hf25, hf26, hf27, hf28, hf29, hf30]; first | done | rfl

end Cert.KernelIdeal.Body

end
-- ==== Proof.KernelIdeal.RunE.lean ====
/- The body at the last point. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Vals

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point. -/
theorem run_E (c : Dev nD) (i : grid0.Coords) (arg2 : Memref sig .tc .vmem S1x2048x64 .f32) (harg2 : arg2.IsWhole) (arg3 : Memref sig .tc .vmem S1x1x2048 .f32) (harg3 : arg3.IsWhole) (arg4 : Memref sig .tc .vmem S1x2048x1 .f32) (harg4 : arg4.IsWhole) (arg5 : Memref sig .tc .vmem S1x1x64 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x4x64 .f32) (harg11 : arg11.IsWhole) (arg12 : Memref sig .tc .vmem S1x4x1 .f32) (harg12 : arg12.IsWhole) (arg13 : Memref sig .tc .vmem S1x1024x2048 .f32) (harg13 : arg13.IsWhole) (arg14 : Memref sig .tc .vmem S1x4x1024 .f32) (harg14 : arg14.IsWhole) (arg15 : Memref sig .tc .vmem S1x1x2048 .f32) (harg15 : arg15.IsWhole) (arg16 : Memref sig .tc .vmem S1x4x2048 .f32) (harg16 : arg16.IsWhole) (arg17 : Memref sig .tc .vmem S1x4x3 .f32) (harg17 : arg17.IsWhole) (arg18 : Memref sig .tc .vmem S1x1x2048 .f32) (harg18 : arg18.IsWhole) (arg19 : Memref sig .tc .vmem S1x1x2048 .f32) (harg19 : arg19.IsWhole) (arg20 : Memref sig .tc .vmem S8x1x2048 .f32) (harg20 : arg20.IsWhole) (arg21 : Memref sig .tc .vmem S1x1024x2048 .f32) (harg21 : arg21.IsWhole) (arg22 : Memref sig .tc .vmem S1x2048x64 .f32) (harg22 : arg22.IsWhole) (arg23 : Memref sig .tc .vmem S1x4x2048 .f32) (harg23 : arg23.IsWhole) (arg24 : Memref sig .tc .vmem S1x4x64 .f32) (harg24 : arg24.IsWhole) (arg25 : Memref sig .tc .vmem S1x1x2048 .f32) (harg25 : arg25.IsWhole) (arg26 : Memref sig .tc .vmem S8x1x2048 .f32) (harg26 : arg26.IsWhole) (arg27 : Memref sig .tc .vmem S8x2048 .f32) (harg27 : arg27.IsWhole) (arg28 : Memref sig .tc .vmem S2048x1 .f32) (harg28 : arg28.IsWhole) (arg29 : Memref sig .tc .vmem S4x16384 .f32) (harg29 : arg29.IsWhole) (arg30 : Memref sig .tc .vmem S16384x64 .f32) (harg30 : arg30.IsWhole) (arg31 : Memref sig .tc .vmem S4x2048 .f32) (harg31 : arg31.IsWhole) (arg32 : Memref sig .tc .vmem S4x2048 .f32) (harg32 : arg32.IsWhole) (hc1 : ¬k0_cond1 i = 1#1) (hc2 : ¬k0_cond2 i = 1#1) (hc3 : k0_cond3 i = 1#1) (hc4 : k0_cond4 i = 1#1)
    (x11 : Vec F S1x1024x2048 .f32) (x12 : Vec F S1x4x1024 .f32) (x13 : Vec F S1x1x2048 .f32) (x14 : Vec F S1x4x2048 .f32) (x15 : Vec F S1x4x3 .f32) (x16 : Vec F S1x1x2048 .f32) (x17 : Vec F S1x1x2048 .f32) (x18 : Vec F S8x1x2048 .f32) (x19 : Vec F S1x1024x2048 .f32) (x21 : Vec F S1x4x2048 .f32) (x22 : Vec F S1x4x64 .f32) (x23 : Vec F S1x1x2048 .f32) (x24 : Vec F S8x1x2048 .f32) (x25 : Vec F S8x2048 .f32) (x26 : Vec F S2048x1 .f32) (x27 : Vec F S4x16384 .f32) (x28 : Vec F S16384x64 .f32) (x29 : Vec F S4x2048 .f32) (x30 : Vec F S4x2048 .f32) (E : Set ℕ) (K : PUnit → sProp 𝕄) :
    iprop(owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ (iprop(owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare (k0_pay42 (VecWindow.window x25 (k0_off5 i) S1x2048.size (k0_off5_inb i)) x13 (VecWindow.window x26 (k0_off6 i) S1024x1.size (k0_off6_inb i)) x11) ∗ owns (c : Thread nD τ) arg23 fullShare (k0_pay35 x15 (VecWindow.window x27 (k0_off8 i) S4x2048.size (k0_off8_inb i hc3)) (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window x25 (k0_off5 i) S1x2048.size (k0_off5_inb i)) x13 (VecWindow.window x26 (k0_off6 i) S1024x1.size (k0_off6_inb i)) x11) x30 x12)) ∗ owns (c : Thread nD τ) arg24 fullShare (k0_pay36 x15 (VecWindow.window x27 (k0_off8 i) S4x2048.size (k0_off8_inb i hc3)) (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window x25 (k0_off5 i) S1x2048.size (k0_off5_inb i)) x13 (VecWindow.window x26 (k0_off6 i) S1024x1.size (k0_off6_inb i)) x11) x30 x12) (VecWindow.window x28 (k0_off9 i) S2048x64.size (k0_off9_inb i hc3))) ∗ owns (c : Thread nD τ) arg25 fullShare (k0_pay3 (VecWindow.window x25 (k0_off5 i) S1x2048.size (k0_off5_inb i)) (k0_pay37 x15 (VecWindow.window x27 (k0_off8 i) S4x2048.size (k0_off8_inb i hc3)) (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) (k0_pay2 (k0_pay41 (VecWindow.window x25 (k0_off5 i) S1x2048.size (k0_off5_inb i)) x13 (VecWindow.window x26 (k0_off6 i) S1024x1.size (k0_off6_inb i)) x11) x30 x12)) (k0_pay38 x16) x17) ∗ owns (c : Thread nD τ) arg26 fullShare (k0_pay4 x25 x18 x25) ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare (VecWindow.put x29 (k0_off7 i) S4x1024.size (k0_pay1 (k0_pay41 (VecWindow.window x25 (k0_off5 i) S1x2048.size (k0_off5_inb i)) x13 (VecWindow.window x26 (k0_off6 i) S1024x1.size (k0_off6_inb i)) x11) (k0_pay43 x14) (constant S4x1024 .f32 0x00000000#32))) ∗ owns (c : Thread nD τ) arg32 fullShare (k0_pay2 (k0_pay41 (VecWindow.window x25 (k0_off5 i) S1x2048.size (k0_off5_inb i)) x13 (VecWindow.window x26 (k0_off6 i) S1024x1.size (k0_off6_inb i)) x11) x30 x12)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0__body_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold cc0__body_skel
  unfold owns
  iintro ⟨⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, Hk⟩
  obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30
  sl_exec (disch := first | sl_exact hc1 | sl_exact hc2 | sl_exact hc3 | sl_exact hc4)
  sl_step
  iapply Hk
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H15]
  · iexists _; isplitr
    swap; · iexact H15
    ipureintro; exact harg17.read_unread _
  isplitl [H16]
  · iexists _; isplitr
    swap; · iexact H16
    ipureintro; exact harg18.read_unread _
  isplitl [H17]
  · iexists _; isplitr
    swap; · iexact H17
    ipureintro; exact harg19.read_unread _
  isplitl [H18]
  · iexists _; isplitr
    swap; · iexact H18
    ipureintro; exact harg20.read_unread _
  isplitl [H19]
  · iexists _; isplitr
    swap; · iexact H19
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl
  isplitl [H21]
  · iexists _; isplitr
    swap; · iexact H21
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl
  isplitl [H22]
  · iexists _; isplitr
    swap; · iexact H22
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl
  isplitl [H23]
  · iexists _; isplitr
    swap; · iexact H23
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl
  isplitl [H24]
  · iexists _; isplitr
    swap; · iexact H24
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl
  isplitl [H25]
  · iexists _; isplitr
    swap; · iexact H25
    ipureintro; exact harg27.read_unread _
  isplitl [H26]
  · iexists _; isplitr
    swap; · iexact H26
    ipureintro; exact harg28.read_unread _
  isplitl [H27]
  · iexists _; isplitr
    swap; · iexact H27
    ipureintro; exact harg29.read_unread _
  isplitl [H28]
  · iexists _; isplitr
    swap; · iexact H28
    ipureintro; exact harg30.read_unread _
  isplitl [H29]
  · iexists _; isplitr
    swap; · iexact H29
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl
  · iexists _; isplitr
    swap; · iexact H30
    ipureintro; sl_open_run; simp only [readAt_unit_self, readCov_unit_self, View.readAt_writes_full, View.read_writes_full, read_writes_put_self, View.writes_nil, window_S1x2048x64, put_S1x2048x64, window_S1x1x2048, put_S1x1x2048, window_S1x2048x1, put_S1x2048x1, window_S1x1x64, put_S1x1x64, window_S1x1x1, put_S1x1x1, window_S1x4x64, put_S1x4x64, window_S1x4x1, put_S1x4x1, window_S1x1024x2048, put_S1x1024x2048, window_S1x4x1024, put_S1x4x1024, window_S1x4x2048, put_S1x4x2048, window_S1x4x3, put_S1x4x3, window_S8x1x2048, put_S8x1x2048, window_S8x2048, put_S8x2048, window_S2048x1, put_S2048x1, window_S4x2048, put_S4x2048, hf11, hf12, hf13, hf14, hf15, hf16, hf17, hf18, hf19, hf21, hf22, hf23, hf24, hf25, hf26, hf27, hf28, hf29, hf30]; first | done | rfl

end Cert.KernelIdeal.Body

end
-- ==== Proof.KernelIdeal.Sound.lean ====
/- The body at every point, and the run of the whole program. -/
module

public import proofs.«01_k».proof.Proof.Gen.KernelIdeal.Skeleton
public import proofs.«01_k».proof.Proof.Gen.KernelIdeal.Frame
public import Idealize.ShloMosaic.Lib.VecWindow
public import Idealize.ShloMosaic.Lib.Tactic.Stretches
public import proofs.«01_k».proof.Proof.KernelIdeal.Data
public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE
public import Idealize.ShloMosaic.Lib.Pipeline.TableIdle
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `n`: the carried buffers at contents as stated, the generator register at some state. -/
def Phi (c : Dev nD) (n : ℕ) : sProp 𝕄 :=
  iprop((∃ (x25 : Vec F S8x2048 .f32) (x26 : Vec F S2048x1 .f32) (x27 : Vec F S4x16384 .f32) (x28 : Vec F S16384x64 .f32) (x29 x30 : Vec F S4x2048 .f32),
    ⌜Inv m c n x25 x26 x27 x28 x29 x30⌝ ∗ owns (c : Thread nD τ) (Memref.whole cc0_scratch0) fullShare x25 ∗ owns (c : Thread nD τ) (Memref.whole cc0_scratch1) fullShare x26 ∗ owns (c : Thread nD τ) (Memref.whole cc0_scratch2) fullShare x27 ∗ owns (c : Thread nD τ) (Memref.whole cc0_scratch3) fullShare x28 ∗ owns (c : Thread nD τ) (Memref.whole cc0_scratch4) fullShare x29 ∗ owns (c : Thread nD τ) (Memref.whole cc0_scratch5) fullShare x30) ∗ (∃ r, prngReg c r))

/-- The proof data: the arrays as the region finds them; after the body at a point each input's buffer at its block,
    the outputs' at the stated contents; the invariant `Phi`; nothing owed; each input array's share divided among its windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => O19 m c t.val
    | ⟨20, _⟩ => MB m c (min t.val 7)
    | ⟨21, _⟩ => O21 m c t.val
    | ⟨22, _⟩ => O22 m c t.val
    | ⟨23, _⟩ => O23 m c t.val
    | ⟨24, _⟩ => O24 m c t.val
    | ⟨n + 25, h⟩ => absurd h (by have e : cfg0.W = 25 := rfl; omega)
  Φ t := Phi m c t.val
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = iblk m c 3 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]
/-- What the body leaves in window 6. -/
theorem after_6 (c : Dev nD) (t : Fin cfg0.N) : (dats m 0 c).after 6 t = iblk m c 6 t := by dsimp only [dats]
/-- What the body leaves in window 7. -/
theorem after_7 (c : Dev nD) (t : Fin cfg0.N) : (dats m 0 c).after 7 t = iblk m c 7 t := by dsimp only [dats]
/-- What the body leaves in window 8. -/
theorem after_8 (c : Dev nD) (t : Fin cfg0.N) : (dats m 0 c).after 8 t = iblk m c 8 t := by dsimp only [dats]
/-- What the body leaves in window 9. -/
theorem after_9 (c : Dev nD) (t : Fin cfg0.N) : (dats m 0 c).after 9 t = iblk m c 9 t := by dsimp only [dats]
/-- What the body leaves in window 10. -/
theorem after_10 (c : Dev nD) (t : Fin cfg0.N) : (dats m 0 c).after 10 t = iblk m c 10 t := by dsimp only [dats]
/-- What the body leaves in window 11. -/
theorem after_11 (c : Dev nD) (t : Fin cfg0.N) : (dats m 0 c).after 11 t = iblk m c 11 t := by dsimp only [dats]
/-- What the body leaves in window 12. -/
theorem after_12 (c : Dev nD) (t : Fin cfg0.N) : (dats m 0 c).after 12 t = iblk m c 12 t := by dsimp only [dats]
/-- What the body leaves in window 13. -/
theorem after_13 (c : Dev nD) (t : Fin cfg0.N) : (dats m 0 c).after 13 t = iblk m c 13 t := by dsimp only [dats]
/-- What the body leaves in window 14. -/
theorem after_14 (c : Dev nD) (t : Fin cfg0.N) : (dats m 0 c).after 14 t = iblk m c 14 t := by dsimp only [dats]
/-- What the body leaves in window 15. -/
theorem after_15 (c : Dev nD) (t : Fin cfg0.N) : (dats m 0 c).after 15 t = iblk m c 15 t := by dsimp only [dats]
/-- What the body leaves in window 16. -/
theorem after_16 (c : Dev nD) (t : Fin cfg0.N) : (dats m 0 c).after 16 t = iblk m c 16 t := by dsimp only [dats]
/-- What the body leaves in window 17. -/
theorem after_17 (c : Dev nD) (t : Fin cfg0.N) : (dats m 0 c).after 17 t = iblk m c 17 t := by dsimp only [dats]
/-- What the body leaves in window 18. -/
theorem after_18 (c : Dev nD) (t : Fin cfg0.N) : (dats m 0 c).after 18 t = iblk m c 18 t := by dsimp only [dats]
/-- What the body leaves in window 19. -/
theorem after_19 (c : Dev nD) (t : Fin cfg0.N) : (dats m 0 c).after 19 t = O19 m c t.val := by dsimp only [dats]
/-- What the body leaves in window 20. -/
theorem after_20 (c : Dev nD) (t : Fin cfg0.N) : (dats m 0 c).after 20 t = MB m c (min t.val 7) := by dsimp only [dats]
/-- What the body leaves in window 21. -/
theorem after_21 (c : Dev nD) (t : Fin cfg0.N) : (dats m 0 c).after 21 t = O21 m c t.val := by dsimp only [dats]
/-- What the body leaves in window 22. -/
theorem after_22 (c : Dev nD) (t : Fin cfg0.N) : (dats m 0 c).after 22 t = O22 m c t.val := by dsimp only [dats]
/-- What the body leaves in window 23. -/
theorem after_23 (c : Dev nD) (t : Fin cfg0.N) : (dats m 0 c).after 23 t = O23 m c t.val := by dsimp only [dats]
/-- What the body leaves in window 24. -/
theorem after_24 (c : Dev nD) (t : Fin cfg0.N) : (dats m 0 c).after 24 t = O24 m c t.val := by dsimp only [dats]
/-- What the body finds in window 0. -/
theorem before_0 (c : Dev nD) (t : Fin cfg0.N) (d) : (dats m 0 c).before 0 t d = I0 m c t.val := by
  rw [before0_0_of m (dats m 0 c) (A_eq m c 0) (after_0 m c) t d]; unfold I0; rw [pt_val]
/-- What the body returns of window 0. -/
theorem leaves_0 (c : Dev nD) (t : Fin cfg0.N) : (dats m 0 c).leavesExact 0 t = owns (c : Thread nD τ) (st0_0 t) fullShare (I0 m c t.val) := by
  unfold Dat.leavesExact
  rw [show cfg0.idle 0 (cfg0.grid.coords t) = false from rfl, after_0]; unfold I0; rw [pt_val]
/-- What the body finds in window 1. -/
theorem before_1 (c : Dev nD) (t : Fin cfg0.N) (d) : (dats m 0 c).before 1 t d = I1 m c t.val := by
  rw [before0_1_of m (dats m 0 c) (A_eq m c 1) (after_1 m c) t d]; unfold I1; rw [pt_val]
/-- What the body returns of window 1. -/
theorem leaves_1 (c : Dev nD) (t : Fin cfg0.N) : (dats m 0 c).leavesExact 1 t = owns (c : Thread nD τ) (st0_1 t) fullShare (I1 m c t.val) := by
  unfold Dat.leavesExact
  rw [show cfg0.idle 1 (cfg0.grid.coords t) = false from rfl, after_1]; unfold I1; rw [pt_val]
/-- What the body finds in window 2. -/
theorem before_2 (c : Dev nD) (t : Fin cfg0.N) (d) : (dats m 0 c).before 2 t d = I2 m c t.val := by
  rw [before0_2_of m (dats m 0 c) (A_eq m c 2) (after_2 m c) t d]; unfold I2; rw [pt_val]
/-- What the body returns of window 2. -/
theorem leaves_2 (c : Dev nD) (t : Fin cfg0.N) : (dats m 0 c).leavesExact 2 t = owns (c : Thread nD τ) (st0_2 t) fullShare (I2 m c t.val) := by
  unfold Dat.leavesExact
  rw [show cfg0.idle 2 (cfg0.grid.coords t) = false from rfl, after_2]; unfold I2; rw [pt_val]
/-- What the body finds in window 3. -/
theorem before_3 (c : Dev nD) (t : Fin cfg0.N) (d) : (dats m 0 c).before 3 t d = I3 m c t.val := by
  rw [before0_3_of m (dats m 0 c) (A_eq m c 3) (after_3 m c) t d]; unfold I3; rw [pt_val]
/-- What the body returns of window 3. -/
theorem leaves_3 (c : Dev nD) (t : Fin cfg0.N) : (dats m 0 c).leavesExact 3 t = owns (c : Thread nD τ) (st0_3 t) fullShare (I3 m c t.val) := by
  unfold Dat.leavesExact
  rw [show cfg0.idle 3 (cfg0.grid.coords t) = false from rfl, after_3]; unfold I3; rw [pt_val]
/-- What the body finds in window 4. -/
theorem before_4 (c : Dev nD) (t : Fin cfg0.N) (d) : (dats m 0 c).before 4 t d = I4 m c t.val := by
  rw [before0_4_of m (dats m 0 c) (A_eq m c 4) (after_4 m c) t d]; unfold I4; rw [pt_val]
/-- What the body returns of window 4. -/
theorem leaves_4 (c : Dev nD) (t : Fin cfg0.N) : (dats m 0 c).leavesExact 4 t = owns (c : Thread nD τ) (st0_4 t) fullShare (I4 m c t.val) := by
  unfold Dat.leavesExact
  rw [show cfg0.idle 4 (cfg0.grid.coords t) = false from rfl, after_4]; unfold I4; rw [pt_val]
/-- What the body finds in window 5. -/
theorem before_5 (c : Dev nD) (t : Fin cfg0.N) (d) : (dats m 0 c).before 5 t d = I5 m c t.val := by
  rw [before0_5_of m (dats m 0 c) (A_eq m c 5) (after_5 m c) t d]; unfold I5; rw [pt_val]
/-- What the body returns of window 5. -/
theorem leaves_5 (c : Dev nD) (t : Fin cfg0.N) : (dats m 0 c).leavesExact 5 t = owns (c : Thread nD τ) (st0_5 t) fullShare (I5 m c t.val) := by
  unfold Dat.leavesExact
  rw [show cfg0.idle 5 (cfg0.grid.coords t) = false from rfl, after_5]; unfold I5; rw [pt_val]
/-- What the body finds in window 6. -/
theorem before_6 (c : Dev nD) (t : Fin cfg0.N) (d) : (dats m 0 c).before 6 t d = I6 m c t.val := by
  rw [before0_6_of m (dats m 0 c) (A_eq m c 6) (after_6 m c) t d]; unfold I6; rw [pt_val]
/-- What the body returns of window 6. -/
theorem leaves_6 (c : Dev nD) (t : Fin cfg0.N) : (dats m 0 c).leavesExact 6 t = owns (c : Thread nD τ) (st0_6 t) fullShare (I6 m c t.val) := by
  unfold Dat.leavesExact
  rw [show cfg0.idle 6 (cfg0.grid.coords t) = false from rfl, after_6]; unfold I6; rw [pt_val]
/-- What the body finds in window 7. -/
theorem before_7 (c : Dev nD) (t : Fin cfg0.N) (d) : (dats m 0 c).before 7 t d = I7 m c t.val := by
  rw [before0_7_of m (dats m 0 c) (A_eq m c 7) (after_7 m c) t d]; unfold I7; rw [pt_val]
/-- What the body returns of window 7. -/
theorem leaves_7 (c : Dev nD) (t : Fin cfg0.N) : (dats m 0 c).leavesExact 7 t = owns (c : Thread nD τ) (st0_7 t) fullShare (I7 m c t.val) := by
  unfold Dat.leavesExact
  rw [show cfg0.idle 7 (cfg0.grid.coords t) = false from rfl, after_7]; unfold I7; rw [pt_val]
/-- What the body finds in window 8. -/
theorem before_8 (c : Dev nD) (t : Fin cfg0.N) (d) : (dats m 0 c).before 8 t d = I8 m c t.val := by
  rw [before0_8_of m (dats m 0 c) (A_eq m c 8) (after_8 m c) t d]; unfold I8; rw [pt_val]
/-- What the body returns of window 8. -/
theorem leaves_8 (c : Dev nD) (t : Fin cfg0.N) : (dats m 0 c).leavesExact 8 t = owns (c : Thread nD τ) (st0_8 t) fullShare (I8 m c t.val) := by
  unfold Dat.leavesExact
  rw [show cfg0.idle 8 (cfg0.grid.coords t) = false from rfl, after_8]; unfold I8; rw [pt_val]
/-- What the body finds in window 9. -/
theorem before_9 (c : Dev nD) (t : Fin cfg0.N) (d) : (dats m 0 c).before 9 t d = I9 m c t.val := by
  rw [before0_9_of m (dats m 0 c) (A_eq m c 9) (after_9 m c) t d]; unfold I9; rw [pt_val]
/-- What the body returns of window 9. -/
theorem leaves_9 (c : Dev nD) (t : Fin cfg0.N) : (dats m 0 c).leavesExact 9 t = owns (c : Thread nD τ) (st0_9 t) fullShare (I9 m c t.val) := by
  unfold Dat.leavesExact
  rw [show cfg0.idle 9 (cfg0.grid.coords t) = false from rfl, after_9]; unfold I9; rw [pt_val]
/-- What the body finds in window 10. -/
theorem before_10 (c : Dev nD) (t : Fin cfg0.N) (d) : (dats m 0 c).before 10 t d = I10 m c t.val := by
  rw [before0_10_of m (dats m 0 c) (A_eq m c 10) (after_10 m c) t d]; unfold I10; rw [pt_val]
/-- What the body returns of window 10. -/
theorem leaves_10 (c : Dev nD) (t : Fin cfg0.N) : (dats m 0 c).leavesExact 10 t = owns (c : Thread nD τ) (st0_10 t) fullShare (I10 m c t.val) := by
  unfold Dat.leavesExact
  rw [show cfg0.idle 10 (cfg0.grid.coords t) = false from rfl, after_10]; unfold I10; rw [pt_val]
/-- What the body finds in window 11. -/
theorem before_11 (c : Dev nD) (t : Fin cfg0.N) (d) : (dats m 0 c).before 11 t d = I11 m c t.val := by
  rw [before0_11_of m (dats m 0 c) (A_eq m c 11) (after_11 m c) t d]; unfold I11; rw [pt_val]
/-- What the body returns of window 11. -/
theorem leaves_11 (c : Dev nD) (t : Fin cfg0.N) : (dats m 0 c).leavesExact 11 t = owns (c : Thread nD τ) (st0_11 t) fullShare (I11 m c t.val) := by
  unfold Dat.leavesExact
  rw [show cfg0.idle 11 (cfg0.grid.coords t) = false from rfl, after_11]; unfold I11; rw [pt_val]
/-- What the body finds in window 12. -/
theorem before_12 (c : Dev nD) (t : Fin cfg0.N) (d) : (dats m 0 c).before 12 t d = I12 m c t.val := by
  rw [before0_12_of m (dats m 0 c) (A_eq m c 12) (after_12 m c) t d]; unfold I12; rw [pt_val]
/-- What the body returns of window 12. -/
theorem leaves_12 (c : Dev nD) (t : Fin cfg0.N) : (dats m 0 c).leavesExact 12 t = owns (c : Thread nD τ) (st0_12 t) fullShare (I12 m c t.val) := by
  unfold Dat.leavesExact
  rw [show cfg0.idle 12 (cfg0.grid.coords t) = false from rfl, after_12]; unfold I12; rw [pt_val]
/-- What the body finds in window 13. -/
theorem before_13 (c : Dev nD) (t : Fin cfg0.N) (d) : (dats m 0 c).before 13 t d = I13 m c t.val := by
  rw [before0_13_of m (dats m 0 c) (A_eq m c 13) (after_13 m c) t d]; unfold I13; rw [pt_val]
/-- What the body returns of window 13. -/
theorem leaves_13 (c : Dev nD) (t : Fin cfg0.N) : (dats m 0 c).leavesExact 13 t = owns (c : Thread nD τ) (st0_13 t) fullShare (I13 m c t.val) := by
  unfold Dat.leavesExact
  rw [show cfg0.idle 13 (cfg0.grid.coords t) = false from rfl, after_13]; unfold I13; rw [pt_val]
/-- What the body finds in window 14. -/
theorem before_14 (c : Dev nD) (t : Fin cfg0.N) (d) : (dats m 0 c).before 14 t d = I14 m c t.val := by
  rw [before0_14_of m (dats m 0 c) (A_eq m c 14) (after_14 m c) t d]; unfold I14; rw [pt_val]
/-- What the body returns of window 14. -/
theorem leaves_14 (c : Dev nD) (t : Fin cfg0.N) : (dats m 0 c).leavesExact 14 t = owns (c : Thread nD τ) (st0_14 t) fullShare (I14 m c t.val) := by
  unfold Dat.leavesExact
  rw [show cfg0.idle 14 (cfg0.grid.coords t) = false from rfl, after_14]; unfold I14; rw [pt_val]
/-- What the body finds in window 15. -/
theorem before_15 (c : Dev nD) (t : Fin cfg0.N) (d) : (dats m 0 c).before 15 t d = I15 m c t.val := by
  rw [before0_15_of m (dats m 0 c) (A_eq m c 15) (after_15 m c) t d]; unfold I15; rw [pt_val]
/-- What the body returns of window 15. -/
theorem leaves_15 (c : Dev nD) (t : Fin cfg0.N) : (dats m 0 c).leavesExact 15 t = owns (c : Thread nD τ) (st0_15 t) fullShare (I15 m c t.val) := by
  unfold Dat.leavesExact
  rw [show cfg0.idle 15 (cfg0.grid.coords t) = false from rfl, after_15]; unfold I15; rw [pt_val]
/-- What the body finds in window 16. -/
theorem before_16 (c : Dev nD) (t : Fin cfg0.N) (d) : (dats m 0 c).before 16 t d = I16 m c t.val := by
  rw [before0_16_of m (dats m 0 c) (A_eq m c 16) (after_16 m c) t d]; unfold I16; rw [pt_val]
/-- What the body returns of window 16. -/
theorem leaves_16 (c : Dev nD) (t : Fin cfg0.N) : (dats m 0 c).leavesExact 16 t = owns (c : Thread nD τ) (st0_16 t) fullShare (I16 m c t.val) := by
  unfold Dat.leavesExact
  rw [show cfg0.idle 16 (cfg0.grid.coords t) = false from rfl, after_16]; unfold I16; rw [pt_val]
/-- What the body finds in window 17. -/
theorem before_17 (c : Dev nD) (t : Fin cfg0.N) (d) : (dats m 0 c).before 17 t d = I17 m c t.val := by
  rw [before0_17_of m (dats m 0 c) (A_eq m c 17) (after_17 m c) t d]; unfold I17; rw [pt_val]
/-- What the body returns of window 17. -/
theorem leaves_17 (c : Dev nD) (t : Fin cfg0.N) : (dats m 0 c).leavesExact 17 t = owns (c : Thread nD τ) (st0_17 t) fullShare (I17 m c t.val) := by
  unfold Dat.leavesExact
  rw [show cfg0.idle 17 (cfg0.grid.coords t) = false from rfl, after_17]; unfold I17; rw [pt_val]
/-- What the body finds in window 18. -/
theorem before_18 (c : Dev nD) (t : Fin cfg0.N) (d) : (dats m 0 c).before 18 t d = I18 m c t.val := by
  rw [before0_18_of m (dats m 0 c) (A_eq m c 18) (after_18 m c) t d]; unfold I18; rw [pt_val]
/-- What the body returns of window 18. -/
theorem leaves_18 (c : Dev nD) (t : Fin cfg0.N) : (dats m 0 c).leavesExact 18 t = owns (c : Thread nD τ) (st0_18 t) fullShare (I18 m c t.val) := by
  unfold Dat.leavesExact
  rw [show cfg0.idle 18 (cfg0.grid.coords t) = false from rfl, after_18]; unfold I18; rw [pt_val]
/-- What the body returns of window 19. -/
theorem leaves_19 (c : Dev nD) (t : Fin cfg0.N) : (dats m 0 c).leavesExact 19 t = owns (c : Thread nD τ) (st0_19 t) fullShare (O19 m c t.val) := by
  unfold Dat.leavesExact
  rw [show cfg0.idle 19 (cfg0.grid.coords t) = false from rfl, after_19]
/-- What the body returns of window 20 where it stores it. -/
theorem leaves_20 (c : Dev nD) (t : Fin cfg0.N) (hc : k0_cond1 (grid0.coords t) = 1#1) :
    (dats m 0 c).leavesExact 20 t = owns (c : Thread nD τ) (st0_20 t) fullShare (MB m c (min t.val 7)) := by
  unfold Dat.leavesExact
  rw [show cfg0.idle 20 (cfg0.grid.coords t) = false from by show (!(k0_cond1 (grid0.coords t) == 1#1)) = false; rw [hc]; rfl, after_20]
/-- Where the body stores nothing into window 20, the window is idle. -/
theorem idle_20 (t : Fin cfg0.N) (hc : ¬k0_cond1 (grid0.coords t) = 1#1) : cfg0.idle 20 (cfg0.grid.coords t) = true := by
  show (!(k0_cond1 (grid0.coords t) == 1#1)) = true
  rw [beq_eq_false_iff_ne.mpr hc]; rfl
/-- What the body returns of window 21 where it stores it. -/
theorem leaves_21 (c : Dev nD) (t : Fin cfg0.N) (hc : k0_cond3 (grid0.coords t) = 1#1) :
    (dats m 0 c).leavesExact 21 t = owns (c : Thread nD τ) (st0_21 t) fullShare (O21 m c t.val) := by
  unfold Dat.leavesExact
  rw [show cfg0.idle 21 (cfg0.grid.coords t) = false from by show (!(k0_cond3 (grid0.coords t) == 1#1)) = false; rw [hc]; rfl, after_21]
/-- Where the body stores nothing into window 21, the window is idle. -/
theorem idle_21 (t : Fin cfg0.N) (hc : ¬k0_cond3 (grid0.coords t) = 1#1) : cfg0.idle 21 (cfg0.grid.coords t) = true := by
  show (!(k0_cond3 (grid0.coords t) == 1#1)) = true
  rw [beq_eq_false_iff_ne.mpr hc]; rfl
/-- What the body returns of window 22 where it stores it. -/
theorem leaves_22 (c : Dev nD) (t : Fin cfg0.N) (hc : k0_cond3 (grid0.coords t) = 1#1) :
    (dats m 0 c).leavesExact 22 t = owns (c : Thread nD τ) (st0_22 t) fullShare (O22 m c t.val) := by
  unfold Dat.leavesExact
  rw [show cfg0.idle 22 (cfg0.grid.coords t) = false from by show (!(k0_cond3 (grid0.coords t) == 1#1)) = false; rw [hc]; rfl, after_22]
/-- Where the body stores nothing into window 22, the window is idle. -/
theorem idle_22 (t : Fin cfg0.N) (hc : ¬k0_cond3 (grid0.coords t) = 1#1) : cfg0.idle 22 (cfg0.grid.coords t) = true := by
  show (!(k0_cond3 (grid0.coords t) == 1#1)) = true
  rw [beq_eq_false_iff_ne.mpr hc]; rfl
/-- What the body returns of window 23 where it stores it. -/
theorem leaves_23 (c : Dev nD) (t : Fin cfg0.N) (hc : k0_cond3 (grid0.coords t) = 1#1) :
    (dats m 0 c).leavesExact 23 t = owns (c : Thread nD τ) (st0_23 t) fullShare (O23 m c t.val) := by
  unfold Dat.leavesExact
  rw [show cfg0.idle 23 (cfg0.grid.coords t) = false from by show (!(k0_cond3 (grid0.coords t) == 1#1)) = false; rw [hc]; rfl, after_23]
/-- Where the body stores nothing into window 23, the window is idle. -/
theorem idle_23 (t : Fin cfg0.N) (hc : ¬k0_cond3 (grid0.coords t) = 1#1) : cfg0.idle 23 (cfg0.grid.coords t) = true := by
  show (!(k0_cond3 (grid0.coords t) == 1#1)) = true
  rw [beq_eq_false_iff_ne.mpr hc]; rfl
/-- What the body returns of window 24 where it stores it. -/
theorem leaves_24 (c : Dev nD) (t : Fin cfg0.N) (hc : k0_cond4 (grid0.coords t) = 1#1) :
    (dats m 0 c).leavesExact 24 t = owns (c : Thread nD τ) (st0_24 t) fullShare (O24 m c t.val) := by
  unfold Dat.leavesExact
  rw [show cfg0.idle 24 (cfg0.grid.coords t) = false from by show (!(k0_cond4 (grid0.coords t) == 1#1)) = false; rw [hc]; rfl, after_24]
/-- Where the body stores nothing into window 24, the window is idle. -/
theorem idle_24 (t : Fin cfg0.N) (hc : ¬k0_cond4 (grid0.coords t) = 1#1) : cfg0.idle 24 (cfg0.grid.coords t) = true := by
  show (!(k0_cond4 (grid0.coords t) == 1#1)) = true
  rw [beq_eq_false_iff_ne.mpr hc]; rfl
/-- Window 21 is not written back at the even points. -/
theorem noflush_21 (t : Fin cfg0.N) (h : t.val % 2 = 0) : (cfg0.win 21).flush t = false :=
  Bool.eq_false_iff.mpr fun e => by have := (flush0_21 t).mp e; omega
/-- Window 22 is not written back at the even points. -/
theorem noflush_22 (t : Fin cfg0.N) (h : t.val % 2 = 0) : (cfg0.win 22).flush t = false :=
  Bool.eq_false_iff.mpr fun e => by have := (flush0_22 t).mp e; omega
/-- Window 23 is not written back at the even points. -/
theorem noflush_23 (t : Fin cfg0.N) (h : t.val % 2 = 0) : (cfg0.win 23).flush t = false :=
  Bool.eq_false_iff.mpr fun e => by have := (flush0_23 t).mp e; omega
/-- Window 24 is written back at the last point only. -/
theorem noflush_24 (t : Fin cfg0.N) (h : ¬ t.val = 15) : (cfg0.win 24).flush t = false :=
  Bool.eq_false_iff.mpr fun e => by
    have := (flush0_24 t).mp e
    have ht : t.val < 16 := Nat.lt_of_lt_of_eq t.isLt N_0
    omega
/-- Window 20's write-backs, by the point. -/
theorem flush_20 : ∀ t : Fin grid0.N, win0_20.flush t = true ↔ (t.val < 7 ∨ t.val = 15) := by
  intro t; rw [Pipeline.Window.flush_eq_flushF]; revert t; decide +kernel
/-- Window 20 is written back at no point from 7 to 14. -/
theorem noflush_20 (t : Fin cfg0.N) (h : ¬ t.val < 7) (h' : ¬ t.val = 15) : (cfg0.win 20).flush t = false :=
  Bool.eq_false_iff.mpr fun e => by have := (flush_20 t).mp e; omega
/-- What the body finds in window 20 at the last point: the last batch entry's updated memory. -/
theorem before_20 (c : Dev nD) (t : Fin cfg0.N) (ht : t.val = 15) (d) : (dats m 0 c).before 20 t d = MB m c 7 := by
  have hN : cfg0.N = 16 := N_0
  rw [(dats m 0 c).before_idle_run 20 (fun t => (cfg0.win 20).fetch_out rfl t) d 7 t (by omega) (fun j h1 h2 =>
    ⟨idle_20 j (fun e => by have := (hcond1 j).mp e; omega), noflush_20 j (by omega) (by omega)⟩)]
  have e : (⟨t.val - 7, by omega⟩ : Fin cfg0.N).val = 8 := by show t.val - 7 = 8; omega
  generalize (⟨t.val - 7, by omega⟩ : Fin cfg0.N) = s at e ⊢
  rw [(dats m 0 c).before_of_pos 20 s (by omega) ((cfg0.win 20).fetch_out rfl _) d]
  have e' : (⟨s.val - 1, Nat.lt_of_le_of_lt (Nat.sub_le _ _) s.isLt⟩ : Fin cfg0.N).val = 7 := by show s.val - 1 = 7; omega
  generalize (⟨s.val - 1, Nat.lt_of_le_of_lt (Nat.sub_le _ _) s.isLt⟩ : Fin cfg0.N) = r at e' ⊢
  rw [if_neg (by rw [noflush_20 r (by omega) (by omega)]; exact Bool.false_ne_true)]
  unfold Dat.left
  rw [show cfg0.idle 20 (cfg0.grid.coords r) = false from by show (!(k0_cond1 (grid0.coords r) == 1#1)) = false; rw [(hcond1 r).mpr (by omega)]; rfl]
  show (dats m 0 c).kept 20 r d = _
  unfold Dat.kept
  rw [Pipeline.fill_of_clip_none (cfg := cfg0) 20 _ (fun _ => rfl) d ((dats m 0 c).after 20 _), Pipeline.Window.fill_cut, after_20, e']
  rfl
/-- What the body returns of window 20 at the last point. -/
theorem leaves_20_last (c : Dev nD) (t : Fin cfg0.N) (ht : t.val = 15) :
    (dats m 0 c).leavesExact 20 t = owns (c : Thread nD τ) (st0_20 t) fullShare (MB m c 7) := by
  unfold Dat.leavesExact
  rw [idle_20 t (fun e => by have := (hcond1 t).mp e; omega), show (cfg0.win 20).flush t = true from (flush_20 t).mpr (Or.inr ht), after_20, ht]
  rfl

/-- What the body is called with at point `t`. -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- What it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

set_option maxHeartbeats 4800000 in
/-- The body at a point of this kind. (The body at an even point of the first half.) -/
theorem sound_A (c : Dev nD) (t : Fin cfg0.N) (h8 : t.val < 8) (h2 : t.val % 2 = 0) :
    bodyPre m c t ⊢ wp frame (wpE (defs₀ (F := F)) Variants.none c none) Set.univ (bodyAt0 t) (fun _ => bodyPost m c t) := by
  have hc1 : k0_cond1 (grid0.coords t) = 1#1 := (hcond1 t).mpr h8
  have hc2 : k0_cond2 (grid0.coords t) = 1#1 := (hcond2 t).mpr h2
  have hc3 : ¬k0_cond3 (grid0.coords t) = 1#1 := fun e => by have := (hcond3 t).mp e; omega
  have hc4 : ¬k0_cond4 (grid0.coords t) = 1#1 := fun e => by have := (hcond4 t).mp e; omega
  unfold bodyPre bodyPost bodyAt0
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  simp only [before_0, before_1, before_2, before_3, before_4, before_5, before_6, before_7, before_8, before_9, before_10, before_11, before_12, before_13, before_14, before_15, before_16, before_17, before_18, leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [leaves_20 m c t hc1]
  rw [Dat.leavesExact_idle (dats m 0 c) 21 t (idle_21 t hc3) (noflush_21 t h2)]
  rw [Dat.leavesExact_idle (dats m 0 c) 22 t (idle_22 t hc3) (noflush_22 t h2)]
  rw [Dat.leavesExact_idle (dats m 0 c) 23 t (idle_23 t hc3) (noflush_23 t h2)]
  rw [Dat.leavesExact_idle (dats m 0 c) 24 t (idle_24 t hc4) (noflush_24 t (by omega))]
  unfold Phi
  iintro ⟨⟨⟨%x25, %x26, %x27, %x28, %x29, %x30, %hI, H25, H26, H27, H28, H29, H30⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  obtain ⟨e19, e20, hI2⟩ := step_A m c t h8 h2 hc2 x25 x26 x27 x28 x29 x30 hI
  iapply (run_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc1 hc2 hc3 hc4 (I0 m c t.val) (I1 m c t.val) (I2 m c t.val) (I3 m c t.val) (I4 m c t.val) (I5 m c t.val) (I6 m c t.val) (I7 m c t.val) (I8 m c t.val) (I9 m c t.val) (I10 m c t.val) (I11 m c t.val) (I12 m c t.val) (I13 m c t.val) (I14 m c t.val) _ _ x25 x26 x27 x28 x29 x30 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H19]; · iexact H19
  isplitl [H20]; · iexact H20
  isplitl [H25]; · iexact H25
  isplitl [H26]; · iexact H26
  isplitl [H27]; · iexact H27
  isplitl [H28]; · iexact H28
  isplitl [H29]; · iexact H29
  isplitl [H30]; · iexact H30
  iintro ⟨H0, H1, H2, H3, H4, H5, H6, H7, H8, H9, H10, H11, H12, H13, H14, H19, H20, H25, H26, H27, H28, H29, H30⟩
  isplitl [H25 H26 H27 H28 H29 H30 Hg]
  · isplitr [Hg]
    · iexists _, _, _, _, _, _; isplitr
      swap
      · isplitl [H25]; · iexact H25
        isplitl [H26]; · iexact H26
        isplitl [H27]; · iexact H27
        isplitl [H28]; · iexact H28
        isplitl [H29]; · iexact H29
        iexact H30
      ipureintro; exact hI2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [← e19]; iexact H19
  isplitl [H20]; · rw [← e20]; iexact H20
  isplitl [H21]; · iexists _; iexact H21
  isplitl [H22]; · iexists _; iexact H22
  isplitl [H23]; · iexists _; iexact H23
  iexists _; iexact H24

set_option maxHeartbeats 4800000 in
/-- The body at a point of this kind. (The body at an odd point of the first half.) -/
theorem sound_B (c : Dev nD) (t : Fin cfg0.N) (h8 : t.val < 8) (h2 : t.val % 2 = 1) :
    bodyPre m c t ⊢ wp frame (wpE (defs₀ (F := F)) Variants.none c none) Set.univ (bodyAt0 t) (fun _ => bodyPost m c t) := by
  have hc1 : k0_cond1 (grid0.coords t) = 1#1 := (hcond1 t).mpr h8
  have hc2 : ¬k0_cond2 (grid0.coords t) = 1#1 := fun e => by have := (hcond2 t).mp e; omega
  have hc3 : k0_cond3 (grid0.coords t) = 1#1 := (hcond3 t).mpr h2
  have hc4 : ¬k0_cond4 (grid0.coords t) = 1#1 := fun e => by have := (hcond4 t).mp e; omega
  unfold bodyPre bodyPost bodyAt0
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  simp only [before_0, before_1, before_2, before_3, before_4, before_5, before_6, before_7, before_8, before_9, before_10, before_11, before_12, before_13, before_14, before_15, before_16, before_17, before_18, leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [leaves_20 m c t hc1]
  rw [leaves_21 m c t hc3]
  rw [leaves_22 m c t hc3]
  rw [leaves_23 m c t hc3]
  rw [Dat.leavesExact_idle (dats m 0 c) 24 t (idle_24 t hc4) (noflush_24 t (by omega))]
  unfold Phi
  iintro ⟨⟨⟨%x25, %x26, %x27, %x28, %x29, %x30, %hI, H25, H26, H27, H28, H29, H30⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  obtain ⟨e19, e20, e21, e22, e23, hI2⟩ := step_B m c t h8 h2 hc3 x25 x26 x27 x28 x29 x30 hI
  iapply (run_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc1 hc2 hc3 hc4 (I0 m c t.val) (I1 m c t.val) (I2 m c t.val) (I3 m c t.val) (I4 m c t.val) (I5 m c t.val) (I6 m c t.val) (I7 m c t.val) (I8 m c t.val) (I9 m c t.val) (I10 m c t.val) (I11 m c t.val) (I12 m c t.val) (I13 m c t.val) (I14 m c t.val) (I15 m c t.val) (I16 m c t.val) (I17 m c t.val) _ _ _ _ _ x25 x26 x27 x28 x29 x30 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  isplitl [H23]; · iexact H23
  isplitl [H25]; · iexact H25
  isplitl [H26]; · iexact H26
  isplitl [H27]; · iexact H27
  isplitl [H28]; · iexact H28
  isplitl [H29]; · iexact H29
  isplitl [H30]; · iexact H30
  iintro ⟨H0, H1, H2, H3, H4, H5, H6, H7, H8, H9, H10, H11, H12, H13, H14, H15, H16, H17, H19, H20, H21, H22, H23, H25, H26, H27, H28, H29, H30⟩
  isplitl [H25 H26 H27 H28 H29 H30 Hg]
  · isplitr [Hg]
    · iexists _, _, _, _, _, _; isplitr
      swap
      · isplitl [H25]; · iexact H25
        isplitl [H26]; · iexact H26
        isplitl [H27]; · iexact H27
        isplitl [H28]; · iexact H28
        isplitl [H29]; · iexact H29
        iexact H30
      ipureintro; exact hI2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [← e19]; iexact H19
  isplitl [H20]; · rw [← e20]; iexact H20
  isplitl [H21]; · rw [← e21]; iexact H21
  isplitl [H22]; · rw [← e22]; iexact H22
  isplitl [H23]; · rw [← e23]; iexact H23
  iexists _; iexact H24

set_option maxHeartbeats 4800000 in
/-- The body at a point of this kind. (The body at an even point of the second half.) -/
theorem sound_C (c : Dev nD) (t : Fin cfg0.N) (h8 : ¬ t.val < 8) (h2 : t.val % 2 = 0) :
    bodyPre m c t ⊢ wp frame (wpE (defs₀ (F := F)) Variants.none c none) Set.univ (bodyAt0 t) (fun _ => bodyPost m c t) := by
  have hc1 : ¬k0_cond1 (grid0.coords t) = 1#1 := fun e => h8 ((hcond1 t).mp e)
  have hc2 : k0_cond2 (grid0.coords t) = 1#1 := (hcond2 t).mpr h2
  have hc3 : ¬k0_cond3 (grid0.coords t) = 1#1 := fun e => by have := (hcond3 t).mp e; omega
  have hc4 : ¬k0_cond4 (grid0.coords t) = 1#1 := fun e => by have := (hcond4 t).mp e; omega
  unfold bodyPre bodyPost bodyAt0
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  simp only [before_0, before_1, before_2, before_3, before_4, before_5, before_6, before_7, before_8, before_9, before_10, before_11, before_12, before_13, before_14, before_15, before_16, before_17, before_18, leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [Dat.leavesExact_idle (dats m 0 c) 20 t (idle_20 t hc1) (noflush_20 t (by omega) (by omega))]
  rw [Dat.leavesExact_idle (dats m 0 c) 21 t (idle_21 t hc3) (noflush_21 t h2)]
  rw [Dat.leavesExact_idle (dats m 0 c) 22 t (idle_22 t hc3) (noflush_22 t h2)]
  rw [Dat.leavesExact_idle (dats m 0 c) 23 t (idle_23 t hc3) (noflush_23 t h2)]
  rw [Dat.leavesExact_idle (dats m 0 c) 24 t (idle_24 t hc4) (noflush_24 t (by omega))]
  unfold Phi
  iintro ⟨⟨⟨%x25, %x26, %x27, %x28, %x29, %x30, %hI, H25, H26, H27, H28, H29, H30⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  obtain ⟨e19, hI2⟩ := step_C m c t h8 h2 hc2 x25 x26 x27 x28 x29 x30 hI
  iapply (run_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc1 hc2 hc3 hc4 (I11 m c t.val) (I12 m c t.val) (I13 m c t.val) (I14 m c t.val) _ x25 x26 x29 x30 Set.univ _)
  isplitl [H11]; · iexact H11
  isplitl [H12]; · iexact H12
  isplitl [H13]; · iexact H13
  isplitl [H14]; · iexact H14
  isplitl [H19]; · iexact H19
  isplitl [H25]; · iexact H25
  isplitl [H26]; · iexact H26
  isplitl [H29]; · iexact H29
  isplitl [H30]; · iexact H30
  iintro ⟨H11, H12, H13, H14, H19, H25, H26, H29, H30⟩
  isplitl [H25 H26 H27 H28 H29 H30 Hg]
  · isplitr [Hg]
    · iexists _, _, _, _, _, _; isplitr
      swap
      · isplitl [H25]; · iexact H25
        isplitl [H26]; · iexact H26
        isplitl [H27]; · iexact H27
        isplitl [H28]; · iexact H28
        isplitl [H29]; · iexact H29
        iexact H30
      ipureintro; exact hI2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [← e19]; iexact H19
  isplitl [H20]; · iexists _; iexact H20
  isplitl [H21]; · iexists _; iexact H21
  isplitl [H22]; · iexists _; iexact H22
  isplitl [H23]; · iexists _; iexact H23
  iexists _; iexact H24

set_option maxHeartbeats 4800000 in
/-- The body at a point of this kind. (The body at an odd point of the second half, but the last.) -/
theorem sound_D (c : Dev nD) (t : Fin cfg0.N) (h8 : ¬ t.val < 8) (h2 : t.val % 2 = 1) (h15 : ¬ t.val = 15) :
    bodyPre m c t ⊢ wp frame (wpE (defs₀ (F := F)) Variants.none c none) Set.univ (bodyAt0 t) (fun _ => bodyPost m c t) := by
  have hc1 : ¬k0_cond1 (grid0.coords t) = 1#1 := fun e => h8 ((hcond1 t).mp e)
  have hc2 : ¬k0_cond2 (grid0.coords t) = 1#1 := fun e => by have := (hcond2 t).mp e; omega
  have hc3 : k0_cond3 (grid0.coords t) = 1#1 := (hcond3 t).mpr h2
  have hc4 : ¬k0_cond4 (grid0.coords t) = 1#1 := fun e => by have := (hcond4 t).mp e; omega
  unfold bodyPre bodyPost bodyAt0
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  simp only [before_0, before_1, before_2, before_3, before_4, before_5, before_6, before_7, before_8, before_9, before_10, before_11, before_12, before_13, before_14, before_15, before_16, before_17, before_18, leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [Dat.leavesExact_idle (dats m 0 c) 20 t (idle_20 t hc1) (noflush_20 t (by omega) (by omega))]
  rw [leaves_21 m c t hc3]
  rw [leaves_22 m c t hc3]
  rw [leaves_23 m c t hc3]
  rw [Dat.leavesExact_idle (dats m 0 c) 24 t (idle_24 t hc4) (noflush_24 t (by omega))]
  unfold Phi
  iintro ⟨⟨⟨%x25, %x26, %x27, %x28, %x29, %x30, %hI, H25, H26, H27, H28, H29, H30⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  obtain ⟨e19, e21, e22, e23, hI2⟩ := step_D m c t h8 h2 hc3 x25 x26 x27 x28 x29 x30 hI
  iapply (run_D c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc1 hc2 hc3 hc4 (I11 m c t.val) (I12 m c t.val) (I13 m c t.val) (I14 m c t.val) (I15 m c t.val) (I16 m c t.val) (I17 m c t.val) _ _ _ _ x25 x26 x27 x28 x29 x30 Set.univ _)
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H19]; · iexact H19
  isplitl [H21]; · iexact H21
  isplitl [H22]; · iexact H22
  isplitl [H23]; · iexact H23
  isplitl [H25]; · iexact H25
  isplitl [H26]; · iexact H26
  isplitl [H27]; · iexact H27
  isplitl [H28]; · iexact H28
  isplitl [H29]; · iexact H29
  isplitl [H30]; · iexact H30
  iintro ⟨H11, H12, H13, H14, H15, H16, H17, H19, H21, H22, H23, H25, H26, H27, H28, H29, H30⟩
  isplitl [H25 H26 H27 H28 H29 H30 Hg]
  · isplitr [Hg]
    · iexists _, _, _, _, _, _; isplitr
      swap
      · isplitl [H25]; · iexact H25
        isplitl [H26]; · iexact H26
        isplitl [H27]; · iexact H27
        isplitl [H28]; · iexact H28
        isplitl [H29]; · iexact H29
        iexact H30
      ipureintro; exact hI2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [← e19]; iexact H19
  isplitl [H20]; · iexists _; iexact H20
  isplitl [H21]; · rw [← e21]; iexact H21
  isplitl [H22]; · rw [← e22]; iexact H22
  isplitl [H23]; · rw [← e23]; iexact H23
  iexists _; iexact H24

set_option maxHeartbeats 4800000 in
/-- The body at a point of this kind. (The body at the last point.) -/
theorem sound_E (c : Dev nD) (t : Fin cfg0.N) (h8 : ¬ t.val < 8) (h2 : t.val % 2 = 1) (h15 : t.val = 15) :
    bodyPre m c t ⊢ wp frame (wpE (defs₀ (F := F)) Variants.none c none) Set.univ (bodyAt0 t) (fun _ => bodyPost m c t) := by
  have hc1 : ¬k0_cond1 (grid0.coords t) = 1#1 := fun e => h8 ((hcond1 t).mp e)
  have hc2 : ¬k0_cond2 (grid0.coords t) = 1#1 := fun e => by have := (hcond2 t).mp e; omega
  have hc3 : k0_cond3 (grid0.coords t) = 1#1 := (hcond3 t).mpr h2
  have hc4 : k0_cond4 (grid0.coords t) = 1#1 := (hcond4 t).mpr h15
  unfold bodyPre bodyPost bodyAt0
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  simp only [before_0, before_1, before_2, before_3, before_4, before_5, before_6, before_7, before_8, before_9, before_10, before_11, before_12, before_13, before_14, before_15, before_16, before_17, before_18, leaves_0, leaves_1, leaves_2, leaves_3, leaves_4, leaves_5, leaves_6, leaves_7, leaves_8, leaves_9, leaves_10, leaves_11, leaves_12, leaves_13, leaves_14, leaves_15, leaves_16, leaves_17, leaves_18, leaves_19]
  rw [leaves_20_last m c t h15]
  simp only [before_20 m c t h15]
  rw [leaves_21 m c t hc3]
  rw [leaves_22 m c t hc3]
  rw [leaves_23 m c t hc3]
  rw [leaves_24 m c t hc4]
  unfold Phi
  iintro ⟨⟨⟨%x25, %x26, %x27, %x28, %x29, %x30, %hI, H25, H26, H27, H28, H29, H30⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  obtain ⟨e19, e21, e22, e23, e24, hI2⟩ := step_E m c t h8 h2 h15 hc3 x25 x26 x27 x28 x29 x30 hI
  iapply (run_E c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ hc1 hc2 hc3 hc4 (I11 m c t.val) (I12 m c t.val) (I13 m c t.val) (I14 m c t.val) (I15 m c t.val) (I16 m c t.val) (I17 m c t.val) (I18 m c t.val) _ _ _ _ _ x25 x26 x27 x28 x29 x30 Set.univ _)
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iintro ⟨H11, H12, H13, H14, H15, H16, H17, H18, H19, H21, H22, H23, H24, H25, H26, H27, H28, H29, H30⟩
  isplitl [H25 H26 H27 H28 H29 H30 Hg]
  · isplitr [Hg]
    · iexists _, _, _, _, _, _; isplitr
      swap
      · isplitl [H25]; · iexact H25
        isplitl [H26]; · iexact H26
        isplitl [H27]; · iexact H27
        isplitl [H28]; · iexact H28
        isplitl [H29]; · iexact H29
        iexact H30
      ipureintro; exact hI2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · rw [← e19]; iexact H19
  isplitl [H20]; · iexact H20
  isplitl [H21]; · rw [← e21]; iexact H21
  isplitl [H22]; · rw [← e22]; iexact H22
  isplitl [H23]; · rw [← e23]; iexact H23
  rw [← e24]; iexact H24

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h8 : t.val < 8
  · by_cases h2 : t.val % 2 = 0
    · exact sound_A m c t h8 h2
    · exact sound_B m c t h8 (by omega)
  · by_cases h2 : t.val % 2 = 0
    · exact sound_C m c t h8 h2
    · by_cases h15 : t.val = 15
      · exact sound_E m c t h8 (by omega) h15
      · exact sound_D m c t h8 (by omega) h15

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region, the carried buffers as owned memrefs. -/
theorem PhiA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the launch hands the region gives the invariant before the first point. -/
theorem hin (c : Dev nD) : Pipeline.ΦA spec0 c ⊢ (dats m 0 c).Φ 0 := by
  rw [show (dats m 0 c).Φ 0 = Phi m c 0 from rfl, PhiA_eq]
  unfold Phi
  iintro ⟨⟨⟨%x25, H25⟩, ⟨%x26, H26⟩, ⟨%x27, H27⟩, ⟨%x28, H28⟩, ⟨%x29, H29⟩, ⟨%x30, H30⟩⟩, Hg⟩
  isplitr [Hg]
  · iexists x25, x26, x27, x28, x29, x30; isplitr
    swap
    · isplitl [H25]; · iexact H25
      isplitl [H26]; · iexact H26
      isplitl [H27]; · iexact H27
      isplitl [H28]; · iexact H28
      isplitl [H29]; · iexact H29
      iexact H30
    ipureintro
    exact ⟨fun k _ h => absurd h (Nat.not_lt_zero k), fun k _ h => absurd h (Nat.not_lt_zero k), fun k _ h => absurd h (Nat.not_lt_zero k), fun h => absurd h (by decide)⟩
  iexact Hg

/-- The invariant after the last point gives back what the launch handed out. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%x25, %x26, %x27, %x28, %x29, %x30, %hI, H25, H26, H27, H28, H29, H30⟩, Hg⟩
  isplitr [Hg]
  · isplitl [H25]; · iexists _; iexact H25
    isplitl [H26]; · iexists _; iexact H26
    isplitl [H27]; · iexists _; iexact H27
    isplitl [H28]; · iexists _; iexact H28
    isplitl [H29]; · iexists _; iexact H29
    iexists _; iexact H30
  iexact Hg

-- the launch theorem's implicit arguments are found by unfolding plain definitions in a metavariable's type
set_option backward.isDefEq.respectTransparency.types false in
/-- Every fair execution ends, every array of the pipeline at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- Every fair execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Ref.Fin.lean ====
module

public import proofs.«01_k».proof.Proof.Gen.ReferenceIdeal.Run

@[expose] public section

noncomputable section

/-! # The reference's run, read buffer by buffer

The operations after the loop write each buffer once. So in the contents at @main's end every such buffer is its
operation applied to the contents, at @main's end, of the operands. -/

namespace Cert.Ref

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]

section General

variable {ops : List (HloOp τ sig (Elt F))} {W : List (Ref sig .tc)}

/-- The write sets of a line's last operations. -/
theorem writes_drop (h : ops.map HloOp.writes = W.map fun r => {Proc.devRef (τ := τ) .tc r}) (k : ℕ) :
    (ops.drop k).Forall fun op => op.writes ⊆ ((W.drop k).map (Proc.devRef (τ := τ) .tc)).toFinset :=
  forall_writes_sub_of_map (by rw [List.map_drop, h, List.map_drop])

/-- A buffer that no operation from the `k`-th on writes holds at the end what it held before the `k`-th. -/
theorem keep_from (h : ops.map HloOp.writes = W.map fun r => {Proc.devRef (τ := τ) .tc r}) (V : Valuation τ sig (Elt F))
    (k : ℕ) {a : Ref sig .tc} (ha : a ∉ W.drop k) :
    after (ops.take k) V (Proc.devRef .tc a) = after ops V (Proc.devRef .tc a) := by
  conv_rhs => rw [← List.take_append_drop k ops, after_append]
  exact (after_of_writes_sub _ _ (writes_drop h k) ha).symm

/-- A buffer that only the `k`-th operation writes holds at the end that operation's result. -/
theorem written_at (h : ops.map HloOp.writes = W.map fun r => {Proc.devRef (τ := τ) .tc r}) (V : Valuation τ sig (Elt F))
    (k : ℕ) {op : HloOp τ sig (Elt F)} (hk : ops[k]? = some op) {b : Ref sig .tc} (hb : b ∉ W.drop (k + 1)) :
    after ops V (Proc.devRef .tc b) = op.result (after (ops.take k) V) (Proc.devRef .tc b) := by
  rw [← keep_from h V (k + 1) hb, List.take_add_one, hk, Option.toList_some, after_append, after_cons, after_nil]

end General

/-- The operations after the loop, in order. -/
abbrev postOps : List (HloOp τ sig (Elt F)) := (postI (F := F)).flatten

/-- The buffer that each of them writes. -/
abbrev postW : List (Ref sig .tc) := [main_v7, main_v8, main_cst_1, main_v9, main_v10, main_v11, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v12, main_v13, main_call6_v0, main_call6_cst, main_call6_v1, main_v14, main_call7_v0, main_call7_cst, main_call7_v1, main_v15, main_v16, main_v17, main_v18, main_v19, main_cst_2, main_v20, main_v21, main_v22, main_cst_3, main_v23, main_cst_4, main_v24, main_v25, main_v26, main_v27, main_v28, main_v29, main_cst_5, main_v30, main_v31, main_v32, main_v33, main_v34, main_v35, main_v36, main_v37, main_v38, main_v39, main_v40, main_v41, main_v42, main_v43, main_cst_6, main_v44, main_v45, main_v46, main_v47, main_v48, main_v49, main_v50, main_v51, main_cst_7, main_v52, main_v53, main_v54, main_v55, main_v56, main_cst_8, main_v57, main_cst_9, main_v58, main_v59, main_v60, main_v61, main_v62, main_v63, main_v64, main_v65, main_call8_v0, main_call8_cst, main_call8_v1, main_v66, main_call9_v0, main_call9_cst, main_call9_v1, main_v67, main_v68, main_v69, main_v70, main_v71, main_v72, main_cst_10, main_v73, main_v74, main_v75, main_cst_11, main_v76, main_cst_12, main_v77, main_v78, main_v79, main_v80, main_v81, main_v82, main_cst_13, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_cst_14, main_v109, main_v110, main_v111, main_v112, main_v113, main_v114]

set_option maxRecDepth 100000 in
/-- The operations after the loop write these buffers, in this order. -/
theorem postOps_writes : (postOps (F := F)).map HloOp.writes = postW.map fun r => {Proc.devRef (τ := τ) .tc r} := rfl

variable (m : (ℓ : Loc nD τ sig) → Buf (Elt F) ℓ) (c : Dev nD)

/-- The contents when the loop has ended. -/
def mid : Valuation τ sig (Elt F) := after condOps (atK m 2048 c)

/-- The contents at @main's end. -/
def fin : Valuation τ sig (Elt F) := after postOps (mid m c)

/-- The contents in which the run ends. -/
theorem final_eq_fin : finalContents condOps preI bodyI postI 2048 m c = fin m c :=
  afterL_eq_after_flatten _ _

variable {m c}

/-- What an operation without operands leaves in its buffer at the end. -/
theorem fin_zero (k : ℕ) {y : Ref sig .tc} {v : y.ty.Contents (Elt F)} {hy} (hk : (postOps (F := F))[k]? = some (nullary y v hy))
    (h : y ∉ postW.drop (k + 1)) : fin m c (Proc.devRef .tc y) = v :=
  (written_at postOps_writes _ k hk h).trans (nullary_result y v hy _)

/-- What an operation with one operand leaves at the end, by what its operand holds at the end. -/
theorem fin_one (k : ℕ) {a y : Ref sig .tc} {f : a.ty.Contents (Elt F) → y.ty.Contents (Elt F)} {ha hy}
    (hk : (postOps (F := F))[k]? = some (unary a y f ha hy)) (h : y ∉ postW.drop (k + 1) ∧ a ∉ postW.drop k) :
    fin m c (Proc.devRef .tc y) = f (fin m c (Proc.devRef .tc a)) :=
  ((written_at postOps_writes _ k hk h.1).trans (unary_result a y f ha hy _)).trans
    (congrArg f (keep_from postOps_writes _ k h.2))

/-- The same of two operands. -/
theorem fin_two (k : ℕ) {a b y : Ref sig .tc} {f : a.ty.Contents (Elt F) → b.ty.Contents (Elt F) → y.ty.Contents (Elt F)} {ha hb hy}
    (hk : (postOps (F := F))[k]? = some (binary a b y f ha hb hy))
    (h : y ∉ postW.drop (k + 1) ∧ a ∉ postW.drop k ∧ b ∉ postW.drop k) :
    fin m c (Proc.devRef .tc y) = f (fin m c (Proc.devRef .tc a)) (fin m c (Proc.devRef .tc b)) :=
  ((written_at postOps_writes _ k hk h.1).trans (binary_result a b y f ha hb hy _)).trans
    (congrArg₂ f (keep_from postOps_writes _ k h.2.1) (keep_from postOps_writes _ k h.2.2))

/-- The same of three operands. -/
theorem fin_three (k : ℕ) {a b d y : Ref sig .tc} {f : a.ty.Contents (Elt F) → b.ty.Contents (Elt F) → d.ty.Contents (Elt F) → y.ty.Contents (Elt F)}
    {ha hb hd hy} (hk : (postOps (F := F))[k]? = some (ternary a b d y f ha hb hd hy))
    (h : y ∉ postW.drop (k + 1) ∧ a ∉ postW.drop k ∧ b ∉ postW.drop k ∧ d ∉ postW.drop k) :
    fin m c (Proc.devRef .tc y) = f (fin m c (Proc.devRef .tc a)) (fin m c (Proc.devRef .tc b)) (fin m c (Proc.devRef .tc d)) := by
  rw [fin, written_at postOps_writes _ k hk h.1, ternary_result, keep_from postOps_writes _ k h.2.1, keep_from postOps_writes _ k h.2.2.1,
    keep_from postOps_writes _ k h.2.2.2]

variable (m c)

/-- The references that some operation of the program writes, before, in or after the loop. -/
abbrev writtenRefs : List (Ref sig .tc) :=
  hostOps0_W ++ hostOps0_1_W ++ hostOps0_2_W ++ hostOps0_3_W ++ condOps_W ++ while0Ops0_W ++ while0Ops0_1_W ++ while0Ops0_2_W ++ while0Ops0_3_W ++ postW

/-- A buffer that neither the loop's condition nor its body writes comes out of the loop as it went in. -/
theorem loop_keep (a : Ref sig .tc) (h : a ∉ condOps_W ++ while0Ops0_W ++ while0Ops0_1_W ++ while0Ops0_2_W ++ while0Ops0_3_W) :
    ∀ k, atK m k c (Proc.devRef .tc a) = entryContents preI m c (Proc.devRef .tc a)
  | 0 => rfl
  | k + 1 => by
    simp only [List.mem_append, not_or] at h
    obtain ⟨⟨⟨⟨h0, h1⟩, h2⟩, h3⟩, h4⟩ := h
    refine Eq.trans ?_ (loop_keep a (by simp only [List.mem_append, not_or]; exact ⟨⟨⟨⟨h0, h1⟩, h2⟩, h3⟩, h4⟩) k)
    show afterL bodyI (after condOps (atK m k c)) _ = _
    simp only [afterL_cons, afterL_nil]
    rw [after_of_writes_sub _ _ while0Ops0_3_writes h4, after_of_writes_sub _ _ while0Ops0_2_writes h3,
      after_of_writes_sub _ _ while0Ops0_1_writes h2, after_of_writes_sub _ _ while0Ops0_writes h1,
      after_of_writes_sub _ _ condOps_writes h0]

/-- Before the operations after the loop, such a buffer still holds what the loop found. -/
theorem mid_keep (a : Ref sig .tc) (h : a ∉ condOps_W ++ while0Ops0_W ++ while0Ops0_1_W ++ while0Ops0_2_W ++ while0Ops0_3_W) :
    mid m c (Proc.devRef .tc a) = entryContents preI m c (Proc.devRef .tc a) := by
  rw [← loop_keep m c a h 2048, mid, after_of_writes_sub _ _ condOps_writes]
  simp only [List.mem_append, not_or] at h
  exact h.1.1.1.1

/-- Nor do the operations after the loop change a buffer that they don't write. -/
theorem fin_mid (a : Ref sig .tc) (h : a ∉ postW) : fin m c (Proc.devRef .tc a) = mid m c (Proc.devRef .tc a) :=
  after_of_writes_sub _ _ (writes_drop postOps_writes 0) h

/-- A buffer that no operation writes keeps its launch contents. -/
theorem fin_arg (a : Ref sig .tc) (h : a ∉ writtenRefs) : fin m c (Proc.devRef .tc a) = m ((c.tc : Thread nD τ).loc a) := by
  simp only [writtenRefs, List.mem_append, not_or] at h
  obtain ⟨⟨⟨⟨⟨⟨⟨⟨⟨h0, h1⟩, h2⟩, h3⟩, h4⟩, h5⟩, h6⟩, h7⟩, h8⟩, h9⟩ := h
  rw [fin_mid m c a h9, mid_keep m c a (by simp only [List.mem_append, not_or]; exact ⟨⟨⟨⟨h4, h5⟩, h6⟩, h7⟩, h8⟩)]
  simp only [entryContents, afterL_cons, afterL_nil]
  rw [after_of_writes_sub _ _ hostOps0_3_writes h3, after_of_writes_sub _ _ hostOps0_2_writes h2,
    after_of_writes_sub _ _ hostOps0_1_writes h1, after_of_writes_sub _ _ hostOps0_writes h0]

variable {m c} (ρ : Dev nD → PrngReg)

/-- Every execution of the reference ends, with every buffer at `fin` and no counter left. -/
theorem run_fin (m : (ℓ : Loc nD τ sig) → Buf (Elt F) ℓ) : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  (θ_run defs _ _).mono (fun r h => ⟨fun c b hb => (h c b hb).trans (congrFun (final_eq_fin m c) _),
    sem_eq_zero_of_no_sems (by decide) r.2⟩) (run_fold m ρ)

/-- The reference's frame. -/
theorem frame (m : (ℓ : Loc nD τ sig) → Buf (Elt F) ℓ) : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) ∧ r.2.sem = fun _ => 0) :=
  (θ_run defs _ _).mono (fun r h => ⟨fun c => ⟨(h.1 c main_arg0 rfl).trans (fin_arg m c main_arg0 (by decide +kernel)),
      (h.1 c main_arg1 rfl).trans (fin_arg m c main_arg1 (by decide +kernel)),
      (h.1 c main_arg2 rfl).trans (fin_arg m c main_arg2 (by decide +kernel)),
      (h.1 c main_arg3 rfl).trans (fin_arg m c main_arg3 (by decide +kernel)),
      (h.1 c main_arg4 rfl).trans (fin_arg m c main_arg4 (by decide +kernel)),
      (h.1 c main_arg5 rfl).trans (fin_arg m c main_arg5 (by decide +kernel)),
      (h.1 c main_arg6 rfl).trans (fin_arg m c main_arg6 (by decide +kernel)),
      (h.1 c main_arg7 rfl).trans (fin_arg m c main_arg7 (by decide +kernel)),
      (h.1 c main_arg8 rfl).trans (fin_arg m c main_arg8 (by decide +kernel)),
      (h.1 c main_arg9 rfl).trans (fin_arg m c main_arg9 (by decide +kernel)),
      (h.1 c main_arg10 rfl).trans (fin_arg m c main_arg10 (by decide +kernel)),
      (h.1 c main_arg11 rfl).trans (fin_arg m c main_arg11 (by decide +kernel)),
      (h.1 c main_arg12 rfl).trans (fin_arg m c main_arg12 (by decide +kernel)),
      (h.1 c main_arg13 rfl).trans (fin_arg m c main_arg13 (by decide +kernel)),
      (h.1 c main_arg14 rfl).trans (fin_arg m c main_arg14 (by decide +kernel))⟩, h.2⟩) (run_fin ρ m)

end Cert.Ref

end
-- ==== Proof.Spec.lean ====
/- The memory step as formulas over the extended reals, entry by entry. -/
module

public import Idealize.ShloMosaic.Lib.Pointwise

@[expose] public section

noncomputable section

open Idealize.ShloMosaic

namespace Cert.Dnc

/-- The least number the kernel takes the logarithm of. -/
abbrev floorW : EReal := Ideal.ofBits .f32 0x02081CEA#32

/-- The least denominator of a similarity. -/
abbrev epsW : EReal := Ideal.ofBits .f32 0x322BCC77#32

/-- The start of a running maximum. -/
abbrev lowW : EReal := Ideal.ofBits .f32 0xFF800000#32

/-- Cell `j` comes before cell `i` when the cells are sorted by usage, equal usages in the order of the cells. -/
abbrev Before (u : Fin 2048 → EReal) (j i : Fin 2048) : Prop := u j < u i ∨ u j = u i ∧ j < i

/-- The allocation weight of a cell: its free share, times the usages of the cells before it. -/
def alloc (u : Fin 2048 → EReal) (i : Fin 2048) : EReal := (1 - u i) * ∏ j : Fin 2048, if Before u j i then u j else 1

/-- The same weight with the product taken as the exponential of a sum of logarithms. -/
def allocLog (u : Fin 2048 → EReal) (i : Fin 2048) : EReal :=
  (1 - u i) * Ideal.exp (∑ j : Fin 2048, if Before u j i then Ideal.log (max (u j) floorW) else 0)

/-- The cosine similarity of a memory row with a key. -/
def sim (mem : Fin 2048 → Fin 64 → EReal) (key : Fin 64 → EReal) (j : Fin 2048) : EReal :=
  Ideal.div (∑ w, key w * mem j w) (max (Ideal.sqrt (∑ w, key w * key w) * Ideal.sqrt (∑ w, mem j w * mem j w)) epsW)

/-- The softmax of a row. -/
def soft (f : Fin 2048 → EReal) (j : Fin 2048) : EReal :=
  Ideal.div (Ideal.exp (f j - Finset.univ.fold max lowW f)) (∑ l, Ideal.exp (f l - Finset.univ.fold max lowW f))

/-- The arguments of a memory step, by batch entry. -/
structure In where
  /-- memory -/
  mem : Fin 8 → Fin 2048 → Fin 64 → EReal
  /-- usage -/
  u : Fin 8 → Fin 2048 → EReal
  /-- read weights -/
  rw : Fin 8 → Fin 4 → Fin 2048 → EReal
  /-- temporal link -/
  L : Fin 8 → Fin 2048 → Fin 2048 → EReal
  /-- precedence -/
  prec : Fin 8 → Fin 2048 → EReal
  /-- write key -/
  wk : Fin 8 → Fin 64 → EReal
  /-- write strength -/
  ws : Fin 8 → EReal
  /-- allocation gate -/
  ag : Fin 8 → EReal
  /-- write gate -/
  wg : Fin 8 → EReal
  /-- write vector -/
  v : Fin 8 → Fin 64 → EReal
  /-- erase vector -/
  e : Fin 8 → Fin 64 → EReal
  /-- read keys -/
  rk : Fin 8 → Fin 4 → Fin 64 → EReal
  /-- read strengths -/
  rs : Fin 8 → Fin 4 → EReal
  /-- read modes -/
  rm : Fin 8 → Fin 4 → Fin 3 → EReal
  /-- free gates -/
  fg : Fin 8 → Fin 2048 → EReal

variable (A : In)

/-- The write weight that the content of the memory asks for. -/
def wc (b : Fin 8) (j : Fin 2048) : EReal := soft (sim (A.mem b) (A.wk b)) j * A.ws b

/-- The write weight, from an allocation weight. -/
def wwOf (al : Fin 8 → Fin 2048 → EReal) (b : Fin 8) (j : Fin 2048) : EReal :=
  (A.ag b * (al b j - wc A b j) + wc A b j) * A.wg b

/-- The write weight. -/
def ww (b : Fin 8) (j : Fin 2048) : EReal := wwOf A (fun b => alloc (A.u b)) b j

/-- The new memory. -/
def memN (b : Fin 8) (j : Fin 2048) (w : Fin 64) : EReal := A.mem b j w * (1 - ww A b j * A.e b w) + ww A b j * A.v b w

/-- The new temporal link. -/
def linkN (b : Fin 8) (i j : Fin 2048) : EReal := (1 - (ww A b i + ww A b j)) * A.L b i j + ww A b i * A.prec b j

/-- The new precedence. -/
def precN (b : Fin 8) (j : Fin 2048) : EReal := (1 - ∑ b' : Fin 8, ∑ j' : Fin 2048, ww A b' j') * A.prec b j + ww A b j

/-- The content weights of the read heads. -/
def cw (b : Fin 8) (r : Fin 4) (j : Fin 2048) : EReal := soft (sim (memN A b) (A.rk b r)) j * A.rs b r

/-- The new read weights. -/
def rwN (b : Fin 8) (r : Fin 4) (j : Fin 2048) : EReal :=
  (∑ k, A.rw b r k * linkN A b j k) * A.rm b r 0 + (∑ k, A.rw b r k * linkN A b k j) * A.rm b r 1 + cw A b r j * A.rm b r 2

/-- The values read. -/
def readN (b : Fin 8) (r : Fin 4) (w : Fin 64) : EReal := ∑ j, rwN A b r j * memN A b j w

/-- The new usage. -/
def useN (b : Fin 8) (j : Fin 2048) : EReal :=
  (A.u b j + ww A b j - A.u b j * ww A b j) * (1 - A.fg b j * (rwN A b 0 j * rwN A b 1 j * rwN A b 2 j * rwN A b 3 j))

/-- Starting a maximum twice is starting it once. -/
theorem max_fold (f : Fin 2048 → EReal) : max lowW (Finset.univ.fold max lowW f) = Finset.univ.fold max lowW f :=
  max_eq_right (Finset.le_fold_max _ |>.mpr (Or.inl le_rfl))

/-- A choice between a value and zero by the words that compare two usages and two positions. -/
theorem select_before (p q : Prop) [Decidable p] [Decidable q] (x y c : ℕ) (hx : x < 2048) (hy : y < 256) (hc : c < 2048) (a : EReal) :
    Scalar.select (IntOp.ori (BitVec.ofBool (decide p)) (IntOp.andi (BitVec.ofBool (decide q))
      (IntOp.cmpi .slt (BitVec.ofNat 32 x) (IntOp.addi (BitVec.ofNat 32 y) (BitVec.ofNat 32 c))))) a 0 = if p ∨ q ∧ x < y + c then a else 0 := by
  have hs : IntOp.cmpi .slt (BitVec.ofNat 32 x) (IntOp.addi (BitVec.ofNat 32 y) (BitVec.ofNat 32 c)) = BitVec.ofBool (decide (x < y + c)) := by
    have h1 : IntOp.addi (BitVec.ofNat 32 y) (BitVec.ofNat 32 c) = BitVec.ofNat 32 (y + c) := (BitVec.ofNat_add y c).symm
    rw [h1]
    have h2 : (BitVec.ofNat 32 x).slt (BitVec.ofNat 32 (y + c)) = decide (x < y + c) := by
      have e1 : ∀ n : ℕ, n < 4096 → (BitVec.ofNat 32 n).toInt = n := fun n hn => by
        have e2 : (BitVec.ofNat 32 n).toNat = n := by rw [BitVec.toNat_ofNat]; exact Nat.mod_eq_of_lt (by omega)
        rw [BitVec.toInt_eq_toNat_of_lt (by omega), e2]
      rw [BitVec.slt_eq_decide, e1 x (by omega), e1 (y + c) (by omega)]
      exact decide_eq_decide.mpr Nat.cast_lt
    show BitVec.ofBool _ = _
    exact congrArg _ h2
  rw [hs]
  by_cases hp : p <;> by_cases hq : q <;> by_cases hl : x < y + c <;> simp [hp, hq, hl, Scalar.select, IntOp.ori, IntOp.andi]

end Cert.Dnc

end
-- ==== Proof.KernelIdeal.Pure.lean ====
/- The values the kernel's body writes, entry by entry. -/
module

public import proofs.«01_k».proof.Proof.KernelIdeal.Data
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Body

open Cert.KernelIdeal Cert.KernelIdeal.Gen Cert.Dnc

/-- The content weights before their strength are the softmax of the similarities. -/
theorem simV_at (x0 : Vec Ideal S1x2048x64 .f32) (x3 : Vec Ideal S1x1x64 .f32) (j : Fin 2048) :
    simV x0 x3 (ix2 0 j) = soft (sim (fun j w => x0 (ix3 0 j w)) fun w => x3 (ix3 0 0 w)) j := by
  pointwise [simV, k0_pay27, k0_pay5, k0_pay26, mul_one]
  simp only [soft, sim, mul_comm]
  rfl

/-- The write weights, from the allocation and content weights. -/
theorem pay29_at (a s : FVec Ideal S1x2048 .f32) (x4 x5 x6 : Vec Ideal S1x1x1 .f32) (j : Fin 2048) :
    k0_pay29 a s x4 x5 x6 (ix2 0 j)
      = (x5 (ix3 0 0 0) * (a (ix2 0 j) - s (ix2 0 j) * x4 (ix3 0 0 0)) + s (ix2 0 j) * x4 (ix3 0 0 0)) * x6 (ix3 0 0 0) := by
  pointwise [k0_pay29, k0_pay28]

/-- The updated memory, from the write weights. -/
theorem pay30_at (v : FVec Ideal S2048x64 .f32) (a s : FVec Ideal S1x2048 .f32) (x4 x5 x6 : Vec Ideal S1x1x1 .f32) (x8 x7 : Vec Ideal S1x1x64 .f32)
    (j : Fin 2048) (w : Fin 64) :
    k0_pay30 v a s x4 x5 x6 x8 x7 (ix2 j w)
      = v (ix2 j w) * (1 - k0_pay29 a s x4 x5 x6 (ix2 0 j) * x8 (ix3 0 0 w)) + k0_pay29 a s x4 x5 x6 (ix2 0 j) * x7 (ix3 0 0 w) := by
  pointwise [k0_pay30, k0_pay29]

/-- The content weights of the read heads. -/
theorem cwV_at (mn : FVec Ideal S2048x64 .f32) (x9 : Vec Ideal S1x4x64 .f32) (x10 : Vec Ideal S1x4x1 .f32) (r : Fin 4) (j : Fin 2048) :
    cwV mn x9 x10 (ix2 r j) = soft (sim (fun j w => mn (ix2 j w)) fun w => x9 (ix3 0 r w)) j * x10 (ix3 0 r 0) := by
  pointwise [cwV, k0_pay33, k0_pay26, one_mul]
  simp only [soft, sim]
  rfl

/-- The logarithms of the cells before cell `j`, summed. -/
def logsBefore (u : Fin 2048 → EReal) (j : Fin 2048) : EReal := ∑ x : Fin 2048, if Before u x j then Ideal.log (max (u x) floorW) else 0

/-- One chunk of the kernel's masked sums, at the `y`-th cell of the chunk that starts at cell `c`. -/
theorem chunk_at (u : Fin 2048 → EReal) (c y : ℕ) (hy : y < 256) (hc : c < 2048) (j : Fin 2048) (hj : c + y = j.val) :
    ∑ x : Fin 2048, Scalar.select (IntOp.ori (BitVec.ofBool (decide (u x < u j)))
        (IntOp.andi (BitVec.ofBool (decide (u x = u j)))
          (IntOp.cmpi .slt (BitVec.ofNat 32 x.val) (IntOp.addi (BitVec.ofNat 32 y) (BitVec.ofNat 32 c)))))
      (Ideal.log (max (u x) (Ideal.ofBits .f32 0x02081CEA#32))) 0
    = logsBefore u j := by
  refine Finset.sum_congr rfl fun x _ => (select_before _ _ x.val y c x.isLt hy hc _).trans ?_
  refine if_congr (or_congr Iff.rfl (and_congr Iff.rfl ?_)) rfl rfl
  rw [Fin.lt_def, ← hj, Nat.add_comm]

section Chunks

variable (x1 : Vec Ideal S1x1x2048 .f32) (x2 : Vec Ideal S1x2048x1 .f32) (h : ∀ j : Fin 2048, x2 (ix3 0 j 0) = x1 (ix3 0 0 j)) (y : Fin 256)

include h

/-- The first chunk. -/
theorem chunk0 : k0_pay9 x1 x2 (ix2 y 0) = logsBefore (fun j => x1 (ix3 0 0 j)) ⟨y.val, by omega⟩ := by
  pointwise [k0_pay6, k0_pay7, k0_pay8, k0_pay9, h]
  exact chunk_at (fun j => x1 (ix3 0 0 j)) 0 y.val y.isLt (by omega) _ (Nat.zero_add _)

/-- The second chunk. -/
theorem chunk256 : k0_pay12 (k0_pay8 x2) (k0_pay10 x1 x2) (Scalar.ofBits .f32 0x00000000#32) k0_pay11 (ix2 y 0) = logsBefore (fun j => x1 (ix3 0 0 j)) ⟨256 + y.val, by omega⟩ := by
  pointwise [k0_pay6, k0_pay7, k0_pay8, k0_pay10, k0_pay11, k0_pay12, h]
  exact chunk_at (fun j => x1 (ix3 0 0 j)) 256 y.val y.isLt (by omega) _ rfl

/-- The third chunk. -/
theorem chunk512 : k0_pay13 (k0_pay6 x1) (k0_pay7 x2) (k0_pay8 x2) (iota .tc S256x2048 32 [1] iota_S256x2048_d1_w32) (ix2 y 0) = logsBefore (fun j => x1 (ix3 0 0 j)) ⟨512 + y.val, by omega⟩ := by
  pointwise [k0_pay6, k0_pay7, k0_pay8, k0_pay13, h]
  exact chunk_at (fun j => x1 (ix3 0 0 j)) 512 y.val y.isLt (by omega) _ rfl

/-- The fourth chunk. -/
theorem chunk768 : k0_pay14 (k0_pay6 x1) (k0_pay7 x2) (k0_pay8 x2) (iota .tc S256x2048 32 [1] iota_S256x2048_d1_w32) (ix2 y 0) = logsBefore (fun j => x1 (ix3 0 0 j)) ⟨768 + y.val, by omega⟩ := by
  pointwise [k0_pay6, k0_pay7, k0_pay8, k0_pay14, h]
  exact chunk_at (fun j => x1 (ix3 0 0 j)) 768 y.val y.isLt (by omega) _ rfl

/-- The fifth chunk. -/
theorem chunk1024 : k0_pay19 (k0_pay8 x2) (iota .tc S256x2048 32 [1] iota_S256x2048_d1_w32) (k0_pay16 (k0_pay6 x1) (k0_pay7 x2)) (k0_pay17 (k0_pay6 x1) (k0_pay7 x2)) k0_pay18 (ix2 y 0) = logsBefore (fun j => x1 (ix3 0 0 j)) ⟨1024 + y.val, by omega⟩ := by
  pointwise [k0_pay6, k0_pay7, k0_pay8, k0_pay15, k0_pay16, k0_pay17, k0_pay18, k0_pay19, h]
  exact chunk_at (fun j => x1 (ix3 0 0 j)) 1024 y.val y.isLt (by omega) _ rfl

/-- The sixth chunk. -/
theorem chunk1280 : k0_pay20 (k0_pay6 x1) (k0_pay7 x2) (k0_pay8 x2) (iota .tc S256x2048 32 [1] iota_S256x2048_d1_w32) (ix2 y 0) = logsBefore (fun j => x1 (ix3 0 0 j)) ⟨1280 + y.val, by omega⟩ := by
  pointwise [k0_pay6, k0_pay7, k0_pay8, k0_pay20, h]
  exact chunk_at (fun j => x1 (ix3 0 0 j)) 1280 y.val y.isLt (by omega) _ rfl

/-- The seventh chunk. -/
theorem chunk1536 : k0_pay21 (k0_pay6 x1) (k0_pay7 x2) (k0_pay8 x2) (iota .tc S256x2048 32 [1] iota_S256x2048_d1_w32) (ix2 y 0) = logsBefore (fun j => x1 (ix3 0 0 j)) ⟨1536 + y.val, by omega⟩ := by
  pointwise [k0_pay6, k0_pay7, k0_pay8, k0_pay21, h]
  exact chunk_at (fun j => x1 (ix3 0 0 j)) 1536 y.val y.isLt (by omega) _ rfl

end Chunks

/-- The allocation weights, from the first seven chunks. -/
theorem pay25_at (u : Fin 2048 → EReal) (x1 : Vec Ideal S1x1x2048 .f32) (x2 : Vec Ideal S1x2048x1 .f32) (hu : ∀ j : Fin 2048, x1 (ix3 0 0 j) = u j)
    (hx : ∀ j : Fin 2048, x2 (ix3 0 j 0) = u j) (d e f g h i k : FVec Ideal S256x1 .f32)
    (h0 : ∀ y : Fin 256, d (ix2 y 0) = logsBefore u ⟨y.val, by omega⟩)
    (h1 : ∀ y : Fin 256, e (ix2 y 0) = logsBefore u ⟨256 + y.val, by omega⟩)
    (h2 : ∀ y : Fin 256, f (ix2 y 0) = logsBefore u ⟨512 + y.val, by omega⟩)
    (h3 : ∀ y : Fin 256, g (ix2 y 0) = logsBefore u ⟨768 + y.val, by omega⟩)
    (h4 : ∀ y : Fin 256, h (ix2 y 0) = logsBefore u ⟨1024 + y.val, by omega⟩)
    (h5 : ∀ y : Fin 256, i (ix2 y 0) = logsBefore u ⟨1280 + y.val, by omega⟩)
    (h6 : ∀ y : Fin 256, k (ix2 y 0) = logsBefore u ⟨1536 + y.val, by omega⟩) (x : Fin 2048) :
    k0_pay25 (k0_pay6 x1) (k0_pay8 x2) (iota .tc S256x2048 32 [1] iota_S256x2048_d1_w32) d e f g h i k (k0_pay22 (k0_pay7 x2)) k0_pay23 (k0_pay24 (k0_pay6 x1)) (ix2 0 x)
      = allocLog u x := by
  pointwise [k0_pay25, k0_pay6, k0_pay7, k0_pay8, k0_pay22, k0_pay23, k0_pay24, hu, hx]
  refine congrArg₂ (· * ·) rfl (congrArg Ideal.exp ?_)
  have hx' := x.isLt
  by_cases c0 : x.val < 256
  · rw [dif_pos c0]
    exact (h0 ⟨x.val, c0⟩).trans rfl
  rw [dif_neg c0]
  by_cases c1 : x.val - 256 < 256
  · rw [dif_pos c1]
    exact (h1 ⟨x.val - 256, c1⟩).trans (congrArg (logsBefore u) (Fin.ext (by first | omega | (dsimp only; omega))))
  rw [dif_neg c1]
  by_cases c2 : x.val - 256 - 256 < 256
  · rw [dif_pos c2]
    exact (h2 ⟨x.val - 256 - 256, c2⟩).trans (congrArg (logsBefore u) (Fin.ext (by first | omega | (dsimp only; omega))))
  rw [dif_neg c2]
  by_cases c3 : x.val - 256 - 256 - 256 < 256
  · rw [dif_pos c3]
    exact (h3 ⟨x.val - 256 - 256 - 256, c3⟩).trans (congrArg (logsBefore u) (Fin.ext (by first | omega | (dsimp only; omega))))
  rw [dif_neg c3]
  by_cases c4 : x.val - 256 - 256 - 256 - 256 < 256
  · rw [dif_pos c4]
    exact (h4 ⟨x.val - 256 - 256 - 256 - 256, c4⟩).trans (congrArg (logsBefore u) (Fin.ext (by first | omega | (dsimp only; omega))))
  rw [dif_neg c4]
  by_cases c5 : x.val - 256 - 256 - 256 - 256 - 256 < 256
  · rw [dif_pos c5]
    exact (h5 ⟨x.val - 256 - 256 - 256 - 256 - 256, c5⟩).trans (congrArg (logsBefore u) (Fin.ext (by first | omega | (dsimp only; omega))))
  rw [dif_neg c5]
  by_cases c6 : x.val - 256 - 256 - 256 - 256 - 256 - 256 < 256
  · rw [dif_pos c6]
    exact (h6 ⟨x.val - 256 - 256 - 256 - 256 - 256 - 256, c6⟩).trans (congrArg (logsBefore u) (Fin.ext (by first | omega | (dsimp only; omega))))
  rw [dif_neg c6]
  have e : (⟨1792 + (x.val - 256 - 256 - 256 - 256 - 256 - 256 - 256), by omega⟩ : Fin 2048) = x := Fin.ext (by dsimp only; omega)
  simp only [e]
  exact chunk_at u 1792 (x.val - 256 - 256 - 256 - 256 - 256 - 256 - 256) (by omega) (by omega) x (by omega)

/-- The allocation weights. -/
theorem allocV_at (x1 : Vec Ideal S1x1x2048 .f32) (x2 : Vec Ideal S1x2048x1 .f32) (h : ∀ j : Fin 2048, x2 (ix3 0 j 0) = x1 (ix3 0 0 j)) (j : Fin 2048) :
    allocV x1 x2 (ix2 0 j) = allocLog (fun j => x1 (ix3 0 0 j)) j :=
  pay25_at (fun j => x1 (ix3 0 0 j)) x1 x2 (fun _ => rfl) h _ _ _ _ _ _ _ (chunk0 x1 x2 h) (chunk256 x1 x2 h) (chunk512 x1 x2 h) (chunk768 x1 x2 h)
    (chunk1024 x1 x2 h) (chunk1280 x1 x2 h) (chunk1536 x1 x2 h) j

/-- The strip of the updated link matrix. -/
theorem pay41_at (v9 : Vec Ideal S1x2048 .f32) (v10 : Vec Ideal S1x1x2048 .f32) (v15 : Vec Ideal S1024x1 .f32) (v16 : Vec Ideal S1x1024x2048 .f32)
    (i : Fin 1024) (j : Fin 2048) :
    k0_pay41 v9 v10 v15 v16 (ix2 i j)
      = v16 (ix3 0 i j) * (1 - v15 (ix2 i 0) - v9 (ix2 0 j)) + v15 (ix2 i 0) * v10 (ix3 0 0 j) := by
  pointwise [k0_pay41]

/-- The same strip, as a block. -/
theorem pay42_at (v9 : Vec Ideal S1x2048 .f32) (v10 : Vec Ideal S1x1x2048 .f32) (v15 : Vec Ideal S1024x1 .f32) (v16 : Vec Ideal S1x1024x2048 .f32)
    (i : Fin 1024) (j : Fin 2048) :
    k0_pay42 v9 v10 v15 v16 (ix3 0 i j) = k0_pay41 v9 v10 v15 v16 (ix2 i j) := by
  pointwise [k0_pay42]

/-- The forward weights over a strip. -/
theorem pay1_at (l : FVec Ideal S1024x2048 .f32) (x : Vec Ideal S1x4x2048 .f32) (r : Fin 4) (j : Fin 1024) :
    k0_pay1 l (k0_pay43 x) (constant S4x1024 .f32 0x00000000#32) (ix2 r j) = ∑ k : Fin 2048, x (ix3 0 r k) * l (ix2 j k) := by
  pointwise [k0_pay1, k0_pay43]

/-- The backward weights with one strip added. -/
theorem pay2_at (l : FVec Ideal S1024x2048 .f32) (z : Vec Ideal S4x2048 .f32) (x : Vec Ideal S1x4x1024 .f32) (r : Fin 4) (j : Fin 2048) :
    k0_pay2 l z x (ix2 r j) = z (ix2 r j) + ∑ k : Fin 1024, x (ix3 0 r k) * l (ix2 k j) := by
  pointwise [k0_pay2]

/-- The new read weights. -/
theorem pay34_at (v : Vec Ideal S1x4x3 .f32) (c f b : Vec Ideal S4x2048 .f32) (r : Fin 4) (j : Fin 2048) :
    k0_pay34 v c f b (ix2 r j) = f (ix2 r j) * v (ix3 0 r 0) + b (ix2 r j) * v (ix3 0 r 1) + c (ix2 r j) * v (ix3 0 r 2) := by
  pointwise [k0_pay34]

/-- The new read weights, as a block. -/
theorem pay35_at (v : Vec Ideal S1x4x3 .f32) (c f b : Vec Ideal S4x2048 .f32) (r : Fin 4) (j : Fin 2048) :
    k0_pay35 v c f b (ix3 0 r j) = k0_pay34 v c f b (ix2 r j) := by
  pointwise [k0_pay35]

/-- The values read. -/
theorem pay36_at (v : Vec Ideal S1x4x3 .f32) (c f b : Vec Ideal S4x2048 .f32) (mn : FVec Ideal S2048x64 .f32) (r : Fin 4) (w : Fin 64) :
    k0_pay36 v c f b (k0_pay32 mn) (ix3 0 r w) = ∑ j : Fin 2048, k0_pay34 v c f b (ix2 r j) * mn (ix2 j w) := by
  pointwise [k0_pay36, k0_pay32]

/-- The product of the four heads' new read weights. -/
theorem pay37_at (v : Vec Ideal S1x4x3 .f32) (c f b : Vec Ideal S4x2048 .f32) (j : Fin 2048) :
    k0_pay37 v c f b (ix2 0 j) = k0_pay34 v c f b (ix2 0 j) * k0_pay34 v c f b (ix2 1 j) * (k0_pay34 v c f b (ix2 2 j) * k0_pay34 v c f b (ix2 3 j)) := by
  pointwise [k0_pay37]

/-- The new usage. -/
theorem pay3_at (w p : FVec Ideal S1x2048 .f32) (x y : Vec Ideal S1x1x2048 .f32) (j : Fin 2048) :
    k0_pay3 w p (k0_pay38 x) y (ix3 0 0 j)
      = (y (ix3 0 0 j) + w (ix2 0 j) - y (ix3 0 0 j) * w (ix2 0 j)) * (1 - x (ix3 0 0 j) * p (ix2 0 j)) := by
  pointwise [k0_pay3, k0_pay38]

/-- The new precedence. -/
theorem pay4_at (x : Vec Ideal S8x2048 .f32) (y : Vec Ideal S8x1x2048 .f32) (b : Fin 8) (j : Fin 2048) :
    k0_pay4 x y x (ix3 b 0 j) = (1 - ∑ b' : Fin 8, ∑ j' : Fin 2048, x (ix2 b' j')) * y (ix3 b 0 j) + x (ix2 b j) := by
  pointwise [k0_pay4]

end Cert.KernelIdeal.Body

end
-- ==== Proof.KernelIdeal.Entry.lean ====
/- The blocks of the kernel's windows as entries of the argument arrays. -/
module

public import proofs.«01_k».proof.Proof.KernelIdeal.Pure
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Dnc

variable (m : (ℓ : Loc nD τ sig) → Buf (Elt Ideal) ℓ) (c : Dev nD)

/-- The kernel's arguments, by batch entry. -/
def inp : In where
  mem b j w := m ((c.tc : Thread nD τ).loc main_arg0) (ix3 b j w)
  u b j := m ((c.tc : Thread nD τ).loc main_arg1) (ix3 b 0 j)
  rw b r j := m ((c.tc : Thread nD τ).loc main_arg2) (ix3 b r j)
  L b i j := m ((c.tc : Thread nD τ).loc main_arg3) (ix3 b i j)
  prec b j := m ((c.tc : Thread nD τ).loc main_arg4) (ix3 b 0 j)
  wk b w := m ((c.tc : Thread nD τ).loc main_arg5) (ix3 b 0 w)
  ws b := m ((c.tc : Thread nD τ).loc main_arg6) (ix3 b 0 0)
  ag b := m ((c.tc : Thread nD τ).loc main_arg7) (ix3 b 0 0)
  wg b := m ((c.tc : Thread nD τ).loc main_arg8) (ix3 b 0 0)
  v b w := m ((c.tc : Thread nD τ).loc main_arg9) (ix3 b 0 w)
  e b w := m ((c.tc : Thread nD τ).loc main_arg10) (ix3 b 0 w)
  rk b r w := m ((c.tc : Thread nD τ).loc main_arg11) (ix3 b r w)
  rs b r := m ((c.tc : Thread nD τ).loc main_arg12) (ix3 b r 0)
  rm b r k := m ((c.tc : Thread nD τ).loc main_arg13) (ix3 b r k)
  fg b j := m ((c.tc : Thread nD τ).loc main_arg14) (ix3 b 0 j)

/-- The block indices of the windows that move with the batch entry being prepared. -/
theorem idxA : ∀ t : Fin cfg0.N, win0_0.index t = ![min t.val 7, 0, 0] ∧ win0_1.index t = ![min t.val 7, 0, 0] ∧ win0_2.index t = ![min t.val 7, 0, 0]
    ∧ win0_3.index t = ![min t.val 7, 0, 0] ∧ win0_4.index t = ![min t.val 7, 0, 0] ∧ win0_5.index t = ![min t.val 7, 0, 0]
    ∧ win0_6.index t = ![min t.val 7, 0, 0] ∧ win0_7.index t = ![min t.val 7, 0, 0] ∧ win0_8.index t = ![min t.val 7, 0, 0]
    ∧ win0_9.index t = ![min t.val 7, 0, 0] ∧ win0_10.index t = ![min t.val 7, 0, 0] ∧ win0_20.index t = ![min t.val 7, 0, 0] :=
  (by decide +kernel : ∀ t : Fin grid0.N, _)

/-- The block indices of the other windows. -/
theorem idxB : ∀ t : Fin cfg0.N, win0_11.index t = ![t.val / 2, t.val % 2, 0] ∧ win0_12.index t = ![t.val / 2, 0, t.val % 2]
    ∧ win0_13.index t = ![t.val / 2, 0, 0] ∧ win0_14.index t = ![t.val / 2, 0, 0] ∧ win0_15.index t = ![t.val / 2, 0, 0]
    ∧ win0_16.index t = ![t.val / 2, 0, 0] ∧ win0_17.index t = ![t.val / 2, 0, 0] ∧ win0_18.index t = ![0, 0, 0]
    ∧ win0_19.index t = ![t.val / 2, t.val % 2, 0] ∧ win0_21.index t = ![t.val / 2, 0, 0] ∧ win0_22.index t = ![t.val / 2, 0, 0]
    ∧ win0_23.index t = ![t.val / 2, 0, 0] ∧ win0_24.index t = ![0, 0, 0] :=
  (by decide +kernel : ∀ t : Fin grid0.N, _)

/-- The points' numbers. -/
theorem pt_lt {n : ℕ} (h : n < 16) : (pt n).val = n := Nat.mod_eq_of_lt h

/-- The first window's block. -/
theorem I0_at (b : Fin 8) (j : Fin 2048) (w : Fin 64) : I0 m c b.val (ix3 0 j w) = (inp m c).mem b j w := by
  have h := pt_lt (n := b.val) (by omega)
  have hb := b.isLt
  unfold I0 inp
  blk_ext [iblk, V, idxA (pt b.val), h]

/-- The transposed usage's block. -/
theorem I2_at (b : Fin 8) (j : Fin 2048) : I2 m c b.val (ix3 0 j 0) = (inp m c).u b j := by
  have h := pt_lt (n := b.val) (by omega)
  have hb := b.isLt
  unfold I2 inp
  blk_simp [iblk, idxA (pt b.val), h]
  entry_read
  pointwise
  blk_ext [idxA (pt b.val), h]

/-- Window 1's block. -/
theorem I1_at (b : Fin 8) (j : Fin 2048) : I1 m c b.val (ix3 0 0 j) = (inp m c).u b j := by
  have h := pt_lt (n := b.val) (by omega)
  have hb := b.isLt
  unfold I1 inp
  blk_ext [iblk, V, idxA (pt b.val), h]

/-- Window 3's block. -/
theorem I3_at (b : Fin 8) (w : Fin 64) : I3 m c b.val (ix3 0 0 w) = (inp m c).wk b w := by
  have h := pt_lt (n := b.val) (by omega)
  have hb := b.isLt
  unfold I3 inp
  blk_ext [iblk, V, idxA (pt b.val), h]

/-- Window 4's block. -/
theorem I4_at (b : Fin 8) : I4 m c b.val (ix3 0 0 0) = (inp m c).ws b := by
  have h := pt_lt (n := b.val) (by omega)
  have hb := b.isLt
  unfold I4 inp
  blk_ext [iblk, V, idxA (pt b.val), h]

/-- Window 5's block. -/
theorem I5_at (b : Fin 8) : I5 m c b.val (ix3 0 0 0) = (inp m c).ag b := by
  have h := pt_lt (n := b.val) (by omega)
  have hb := b.isLt
  unfold I5 inp
  blk_ext [iblk, V, idxA (pt b.val), h]

/-- Window 6's block. -/
theorem I6_at (b : Fin 8) : I6 m c b.val (ix3 0 0 0) = (inp m c).wg b := by
  have h := pt_lt (n := b.val) (by omega)
  have hb := b.isLt
  unfold I6 inp
  blk_ext [iblk, V, idxA (pt b.val), h]

/-- Window 7's block. -/
theorem I7_at (b : Fin 8) (w : Fin 64) : I7 m c b.val (ix3 0 0 w) = (inp m c).v b w := by
  have h := pt_lt (n := b.val) (by omega)
  have hb := b.isLt
  unfold I7 inp
  blk_ext [iblk, V, idxA (pt b.val), h]

/-- Window 8's block. -/
theorem I8_at (b : Fin 8) (w : Fin 64) : I8 m c b.val (ix3 0 0 w) = (inp m c).e b w := by
  have h := pt_lt (n := b.val) (by omega)
  have hb := b.isLt
  unfold I8 inp
  blk_ext [iblk, V, idxA (pt b.val), h]

/-- Window 9's block. -/
theorem I9_at (b : Fin 8) (r : Fin 4) (w : Fin 64) : I9 m c b.val (ix3 0 r w) = (inp m c).rk b r w := by
  have h := pt_lt (n := b.val) (by omega)
  have hb := b.isLt
  unfold I9 inp
  blk_ext [iblk, V, idxA (pt b.val), h]

/-- Window 10's block. -/
theorem I10_at (b : Fin 8) (r : Fin 4) : I10 m c b.val (ix3 0 r 0) = (inp m c).rs b r := by
  have h := pt_lt (n := b.val) (by omega)
  have hb := b.isLt
  unfold I10 inp
  blk_ext [iblk, V, idxA (pt b.val), h]

/-- Window 11's block. -/
theorem I11_at (n : ℕ) (b : Fin 8) (i : ℕ) (hi : i < 2) (hn : n = 2 * b.val + i) (y : Fin 1024) (j : Fin 2048) : I11 m c n (ix3 0 y j) = (inp m c).L b ⟨i * 1024 + y.val, by omega⟩ j := by
  have h := pt_lt (n := n) (by omega)
  have hb := b.isLt
  unfold I11 inp
  blk_ext [iblk, V, idxB (pt n), h]

/-- Window 12's block. -/
theorem I12_at (n : ℕ) (b : Fin 8) (i : ℕ) (hi : i < 2) (hn : n = 2 * b.val + i) (r : Fin 4) (y : Fin 1024) : I12 m c n (ix3 0 r y) = (inp m c).rw b r ⟨i * 1024 + y.val, by omega⟩ := by
  have h := pt_lt (n := n) (by omega)
  have hb := b.isLt
  unfold I12 inp
  blk_ext [iblk, V, idxB (pt n), h]

/-- Window 13's block. -/
theorem I13_at (n : ℕ) (b : Fin 8) (i : ℕ) (hi : i < 2) (hn : n = 2 * b.val + i) (j : Fin 2048) : I13 m c n (ix3 0 0 j) = (inp m c).prec b j := by
  have h := pt_lt (n := n) (by omega)
  have hb := b.isLt
  unfold I13 inp
  blk_ext [iblk, V, idxB (pt n), h]

/-- Window 14's block. -/
theorem I14_at (n : ℕ) (b : Fin 8) (i : ℕ) (hi : i < 2) (hn : n = 2 * b.val + i) (r : Fin 4) (j : Fin 2048) : I14 m c n (ix3 0 r j) = (inp m c).rw b r j := by
  have h := pt_lt (n := n) (by omega)
  have hb := b.isLt
  unfold I14 inp
  blk_ext [iblk, V, idxB (pt n), h]

/-- Window 15's block. -/
theorem I15_at (n : ℕ) (b : Fin 8) (i : ℕ) (hi : i < 2) (hn : n = 2 * b.val + i) (r : Fin 4) (k : Fin 3) : I15 m c n (ix3 0 r k) = (inp m c).rm b r k := by
  have h := pt_lt (n := n) (by omega)
  have hb := b.isLt
  unfold I15 inp
  blk_ext [iblk, V, idxB (pt n), h]

/-- Window 16's block. -/
theorem I16_at (n : ℕ) (b : Fin 8) (i : ℕ) (hi : i < 2) (hn : n = 2 * b.val + i) (j : Fin 2048) : I16 m c n (ix3 0 0 j) = (inp m c).fg b j := by
  have h := pt_lt (n := n) (by omega)
  have hb := b.isLt
  unfold I16 inp
  blk_ext [iblk, V, idxB (pt n), h]

/-- Window 17's block. -/
theorem I17_at (n : ℕ) (b : Fin 8) (i : ℕ) (hi : i < 2) (hn : n = 2 * b.val + i) (j : Fin 2048) : I17 m c n (ix3 0 0 j) = (inp m c).u b j := by
  have h := pt_lt (n := n) (by omega)
  have hb := b.isLt
  unfold I17 inp
  blk_ext [iblk, V, idxB (pt n), h]

/-- The last window's block: all the precedence weights. -/
theorem I18_at (n : ℕ) (b : Fin 8) (j : Fin 2048) : I18 m c n (ix3 b 0 j) = (inp m c).prec b j := by
  unfold I18 inp
  blk_ext [iblk, V, idxB (pt n)]

end Cert.KernelIdeal.Body
end
-- ==== Proof.KernelIdeal.Values.lean ====
/- What the kernel's blocks hold, as the memory step's formulas. -/
module

public import proofs.«01_k».proof.Proof.KernelIdeal.Entry

@[expose] public section

set_option maxRecDepth 16384

noncomputable section

open Idealize.ShloMosaic Idealize.ShloMosaic.TcCoe Idealize.SL.Sem

namespace Cert.KernelIdeal.Body

open Cert.KernelIdeal Cert.KernelIdeal.Gen Cert.Dnc

/-- A strip read out of an array of rows. -/
theorem window_at (x : FVec Ideal S2048x1 .f32) (off : Fin 2 → ℕ) (inb : ∀ a, off a + S1024x1.size a ≤ S2048x1.size a) (k : ℕ) (h0 : off 0 = k * 1024)
    (h1 : off 1 = 0) (hk : k < 2) (y : Fin 1024) :
    (VecWindow.window (s := S2048x1) x off S1024x1.size inb : FVec Ideal S1024x1 .f32) (ix2 y 0) = x (ix2 ⟨k * 1024 + y.val, by omega⟩ 0) := by
  refine congrArg x (funext fun a => Fin.ext ?_)
  show off a + 1 * (ix2 y 0 a).val = _
  fin_cases a
  · show off 0 + 1 * y.val = k * 1024 + y.val
    omega
  · show off 1 + 1 * 0 = 0
    omega

/-- Two strips side by side, at the first. -/
theorem put_left (z : FVec Ideal S4x2048 .f32) (f g : FVec Ideal S4x1024 .f32) (r : Fin 4) (j : Fin 2048) (h : j.val < 1024) :
    (VecWindow.put (s := S4x2048) (VecWindow.put (s := S4x2048) z ![0, 0] S4x1024.size f) ![0, 1024] S4x1024.size g : FVec Ideal S4x2048 .f32) (ix2 r j)
      = f (ix2 r ⟨j.val, h⟩) := by
  unfold VecWindow.put
  rw [dif_neg (fun hh => by have := (hh 1).1; change 1024 ≤ j.val at this; omega), dif_pos (fun a => by
    fin_cases a
    · exact ⟨Nat.zero_le _, (by have := r.isLt; show r.val < 0 + 4; omega)⟩
    · exact ⟨Nat.zero_le _, (by show j.val < 0 + 1024; omega)⟩)]
  refine congrArg f (funext fun a => Fin.ext ?_)
  fin_cases a <;> rfl

/-- Two strips side by side, at the second. -/
theorem put_right (z : FVec Ideal S4x2048 .f32) (f g : FVec Ideal S4x1024 .f32) (r : Fin 4) (j : Fin 2048) (h : ¬ j.val < 1024) :
    (VecWindow.put (s := S4x2048) (VecWindow.put (s := S4x2048) z ![0, 0] S4x1024.size f) ![0, 1024] S4x1024.size g : FVec Ideal S4x2048 .f32) (ix2 r j)
      = g (ix2 r ⟨j.val - 1024, by omega⟩) := by
  unfold VecWindow.put
  have hj := j.isLt
  rw [dif_pos (fun a => by
    fin_cases a
    · exact ⟨Nat.zero_le _, (by have := r.isLt; show r.val < 0 + 4; omega)⟩
    · exact ⟨(by show 1024 ≤ j.val; omega), (by show j.val < 1024 + 1024; omega)⟩)]
  refine congrArg g (funext fun a => Fin.ext ?_)
  fin_cases a <;> rfl

/-- A sum over the columns is the sum over the two strips. -/
theorem sum_strips (f : Fin 2048 → EReal) :
    ∑ k : Fin 2048, f k = (∑ y : Fin 1024, f ⟨0 * 1024 + y.val, by omega⟩) + ∑ y : Fin 1024, f ⟨1 * 1024 + y.val, by omega⟩ := by
  rw [Fin.sum_univ_add (a := 1024) (b := 1024) f]
  refine congrArg₂ (· + ·) (Finset.sum_congr rfl fun y _ => congrArg f (Fin.ext ?_)) (Finset.sum_congr rfl fun y _ => congrArg f (Fin.ext ?_))
  · show y.val = 0 * 1024 + y.val
    omega
  · show 1024 + y.val = 1 * 1024 + y.val
    omega

variable (m : (ℓ : Loc nD τ sig) → Buf (Elt Ideal) ℓ) (c : Dev nD)

/-- The strips' offsets. -/
theorem off6_at (n : ℕ) (h : n < 16) : k0_off6 (grid0.coords (pt n)) 0 = n % 2 * 1024 ∧ k0_off6 (grid0.coords (pt n)) 1 = 0 := by
  have e : ∀ t : Fin grid0.N, k0_off6 (grid0.coords t) 0 = t.val % 2 * 1024 ∧ k0_off6 (grid0.coords t) 1 = 0 := by decide +kernel
  have := e (pt n)
  rwa [pt_lt h] at this

section Alloc

variable (hal : ∀ (b : Fin 8) (j : Fin 2048), allocLog ((inp m c).u b) j = alloc ((inp m c).u b) j)

include hal

/-- The write weights. -/
theorem WW_at (b : Fin 8) (j : Fin 2048) : WW m c b.val (ix2 0 j) = ww (inp m c) b j := by
  unfold WW wwV
  rw [pay29_at, simV_at, allocV_at _ _ (fun j => (I2_at m c b j).trans (I1_at m c b j).symm)]
  simp only [I0_at, I1_at, I3_at, I4_at, I5_at, I6_at]
  rw [hal]
  rfl

/-- The new memory. -/
theorem MN_at (b : Fin 8) (j : Fin 2048) (w : Fin 64) : MN m c b.val (ix2 j w) = memN (inp m c) b j w := by
  unfold MN memV
  rw [pay30_at]
  have e := WW_at m c hal b j
  unfold WW wwV at e
  rw [e, I7_at, I8_at]
  have e0 : k0_pay5 (I0 m c b.val) (ix2 j w) = (inp m c).mem b j w := by
    pointwise [k0_pay5]
    exact I0_at m c b j w
  rw [e0]
  rfl

/-- The new memory, as a block. -/
theorem MB_at (b : Fin 8) (j : Fin 2048) (w : Fin 64) : MB m c b.val (ix3 0 j w) = memN (inp m c) b j w := by
  have e : MB m c b.val (ix3 0 j w) = MN m c b.val (ix2 j w) := by
    pointwise [MB, memB, k0_pay31, MN, memV]
  rw [e, MN_at m c hal]

/-- The content weights of the read heads. -/
theorem CW_at (b : Fin 8) (r : Fin 4) (j : Fin 2048) : CW m c b.val (ix2 r j) = cw (inp m c) b r j := by
  unfold CW
  rw [cwV_at]
  simp only [MN_at m c hal, I9_at, I10_at]
  rfl

variable (hsub : ∀ (b : Fin 8) (i j : Fin 2048), 1 - ww (inp m c) b i - ww (inp m c) b j = 1 - (ww (inp m c) b i + ww (inp m c) b j))

variable (n : ℕ) (b : Fin 8) (i : ℕ) (hi : i < 2) (hn : n = 2 * b.val + i)

include hi hn

/-- The strip of write weights, as a column. -/
theorem V15_at (y : Fin 1024) : V15 m c n (ix2 y 0) = ww (inp m c) b ⟨i * 1024 + y.val, by omega⟩ := by
  have hb := b.isLt
  have e := off6_at n (by omega)
  have e2 : n / 2 = b.val := by omega
  unfold V15
  rw [window_at _ _ _ i (by omega) e.2 hi y, e2]
  pointwise [k0_pay39]
  exact WW_at m c hal b _

include hsub

/-- The strip of the new link matrix. -/
theorem LL_at (y : Fin 1024) (j : Fin 2048) : LL m c n (ix2 y j) = linkN (inp m c) b ⟨i * 1024 + y.val, by omega⟩ j := by
  have hb := b.isLt
  have e2 : n / 2 = b.val := by omega
  unfold LL
  rw [pay41_at, V15_at m c hal n b i hi hn, e2, WW_at m c hal, I11_at m c n b i hi hn, I13_at m c n b i hi hn, hsub, mul_comm]
  rfl

/-- The strip of the new link matrix, as a block. -/
theorem O19_at (y : Fin 1024) (j : Fin 2048) : O19 m c n (ix3 0 y j) = linkN (inp m c) b ⟨i * 1024 + y.val, by omega⟩ j := by
  unfold O19
  rw [pay42_at]
  exact LL_at m c hal hsub n b i hi hn y j

/-- The forward weights over a strip. -/
theorem FP_at (r : Fin 4) (y : Fin 1024) :
    FP m c n (ix2 r y) = ∑ k, (inp m c).rw b r k * linkN (inp m c) b ⟨i * 1024 + y.val, by omega⟩ k := by
  unfold FP
  rw [pay1_at]
  simp only [LL_at m c hal hsub n b i hi hn, I14_at m c n b i hi hn]

/-- The backward weights with the strip added. -/
theorem back_at (z : Vec Ideal S4x2048 .f32) (r : Fin 4) (j : Fin 2048) :
    k0_pay2 (LL m c n) z (I12 m c n) (ix2 r j)
      = z (ix2 r j) + ∑ y : Fin 1024, (inp m c).rw b r ⟨i * 1024 + y.val, by omega⟩ * linkN (inp m c) b ⟨i * 1024 + y.val, by omega⟩ j := by
  rw [pay2_at]
  simp only [LL_at m c hal hsub n b i hi hn, I12_at m c n b i hi hn]

omit hi hn

variable (ho : n = 2 * b.val + 1)

include ho

/-- The forward weights. -/
theorem FW_at (r : Fin 4) (j : Fin 2048) : FW m c n (ix2 r j) = ∑ k, (inp m c).rw b r k * linkN (inp m c) b j k := by
  unfold FW
  have hj := j.isLt
  by_cases h : j.val < 1024
  · rw [put_left _ _ _ r j h, FP_at m c hal hsub (n - 1) b 0 (by omega) (by omega)]
    refine Finset.sum_congr rfl fun k _ => congrArg (fun q => (inp m c).rw b r k * linkN (inp m c) b q k) (Fin.ext ?_)
    show 0 * 1024 + j.val = j.val
    omega
  · rw [put_right _ _ _ r j h, FP_at m c hal hsub n b 1 (by omega) ho]
    refine Finset.sum_congr rfl fun k _ => congrArg (fun q => (inp m c).rw b r k * linkN (inp m c) b q k) (Fin.ext ?_)
    show 1 * 1024 + (j.val - 1024) = j.val
    omega

/-- The backward weights. -/
theorem BW_at (r : Fin 4) (j : Fin 2048) : BW m c n (ix2 r j) = ∑ k, (inp m c).rw b r k * linkN (inp m c) b k j := by
  unfold BW B0
  rw [back_at m c hal hsub n b 1 (by omega) ho, back_at m c hal hsub (n - 1) b 0 (by omega) (by omega),
    sum_strips fun k => (inp m c).rw b r k * linkN (inp m c) b k j]
  have e : (k0_pay40 (F := Ideal)) (ix2 r j) = 0 := by
    pointwise [k0_pay40]
  rw [e, zero_add]

/-- The new read weights. -/
theorem RW_at (r : Fin 4) (j : Fin 2048) : k0_pay34 (I15 m c n) (CW m c (n / 2)) (FW m c n) (BW m c n) (ix2 r j) = rwN (inp m c) b r j := by
  have e2 : n / 2 = b.val := by omega
  rw [pay34_at, FW_at m c hal hsub n b ho, BW_at m c hal hsub n b ho, e2, CW_at m c hal, I15_at m c n b 1 (by omega) ho, I15_at m c n b 1 (by omega) ho,
    I15_at m c n b 1 (by omega) ho]
  rfl

/-- The new read weights, as a block. -/
theorem O21_at (r : Fin 4) (j : Fin 2048) : O21 m c n (ix3 0 r j) = rwN (inp m c) b r j := by
  unfold O21
  rw [pay35_at]
  exact RW_at m c hal hsub n b ho r j

/-- The values read. -/
theorem O22_at (r : Fin 4) (w : Fin 64) : O22 m c n (ix3 0 r w) = readN (inp m c) b r w := by
  have e2 : n / 2 = b.val := by omega
  unfold O22
  rw [pay36_at]
  refine Finset.sum_congr rfl fun j _ => ?_
  rw [RW_at m c hal hsub n b ho, e2, MN_at m c hal]

/-- The new usage. -/
theorem O23_at (j : Fin 2048) : O23 m c n (ix3 0 0 j) = useN (inp m c) b j := by
  have e2 : n / 2 = b.val := by omega
  unfold O23
  rw [pay3_at, pay37_at]
  simp only [RW_at m c hal hsub n b ho]
  rw [e2, WW_at m c hal, I16_at m c n b 1 (by omega) ho, I17_at m c n b 1 (by omega) ho]
  unfold useN
  simp only [mul_assoc]

omit hsub ho

/-- The new precedence. -/
theorem O24_at (j : Fin 2048) : O24 m c n (ix3 b 0 j) = precN (inp m c) b j := by
  have e : ∀ (b : Fin 8) (j : Fin 2048), WALL m c (ix2 b j) = ww (inp m c) b j := fun b j =>
    (congrArg (WW m c b.val) (funext fun a => by fin_cases a <;> rfl)).trans (WW_at m c hal b j)
  unfold O24
  rw [pay4_at, I18_at]
  simp only [e]
  rfl

end Alloc

end Cert.KernelIdeal.Body

end
-- ==== Proof.KernelIdeal.Final.lean ====
/- The kernel's result arrays, as the memory step's formulas. -/
module

public import proofs.«01_k».proof.Proof.KernelIdeal.Values
public import proofs.«01_k».proof.Proof.KernelIdeal.Sound

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Dnc

variable (m : (ℓ : Loc nD τ sig) → Buf (Elt Ideal) ℓ) (c : Dev nD)

variable (hal : ∀ (b : Fin 8) (j : Fin 2048), allocLog ((inp m c).u b) j = alloc ((inp m c).u b) j)

variable (hsub : ∀ (b : Fin 8) (i j : Fin 2048), 1 - ww (inp m c) b i - ww (inp m c) b j = 1 - (ww (inp m c) b i + ww (inp m c) b j))

include hal hsub

/-- The new temporal link. -/
theorem final_19 : (dats m 0 c).arrAt 19 (cfgs 0).N = fun y : S8x2048x2048.Idx => linkN (inp m c) (y 0) (y 1) (y 2) := by
  refine (dats m 0 c).arrAt_eq_of_covers 19 _ (by decide +kernel) fun t hf y => ?_
  have ht : t.val < 16 := Nat.lt_of_lt_of_eq t.isLt N_0
  blk_simp [idxB t]
  rw [after_19]
  idx_vars y
  obtain rfl : y0 = 0 := Subsingleton.elim _ _
  have e : ((View.whole main_v1_0).slice (win0_19.rect t)).emb (ix3 0 y1 y2)
      = (ix3 ⟨t.val / 2, by omega⟩ ⟨t.val % 2 * 1024 + y1.val, by omega⟩ y2 : S8x2048x2048.Idx) := by
    blk_ext [idxB t]
  rw [e]
  exact O19_at m c hal hsub t.val ⟨t.val / 2, by omega⟩ (t.val % 2) (by omega) (by dsimp only; omega) y1 y2

/-- The new memory. -/
theorem final_20 : (dats m 0 c).arrAt 20 (cfgs 0).N = fun y : S8x2048x64.Idx => memN (inp m c) (y 0) (y 1) (y 2) := by
  refine (dats m 0 c).arrAt_eq_of_covers 20 _ (by decide +kernel) fun t hf y => ?_
  have ht : t.val < 16 := Nat.lt_of_lt_of_eq t.isLt N_0
  blk_simp [idxA t, idxB t]
  rw [after_20]
  idx_vars y
  obtain rfl : y0 = 0 := Subsingleton.elim _ _
  have e : ((View.whole main_v1_1).slice (win0_20.rect t)).emb (ix3 0 y1 y2)
      = (ix3 ⟨min t.val 7, by omega⟩ y1 y2 : S8x2048x64.Idx) := by
    blk_ext [idxA t, idxB t]
  rw [e]
  exact MB_at m c hal ⟨min t.val 7, by omega⟩ y1 y2

/-- The new read weights. -/
theorem final_21 : (dats m 0 c).arrAt 21 (cfgs 0).N = fun y : S8x4x2048.Idx => rwN (inp m c) (y 0) (y 1) (y 2) := by
  refine (dats m 0 c).arrAt_eq_of_covers 21 _ (by decide +kernel) fun t hf y => ?_
  have ht : t.val < 16 := Nat.lt_of_lt_of_eq t.isLt N_0
  have hodd : t.val = 2 * (t.val / 2) + 1 := by
    by_contra hne
    exact absurd hf (by rw [noflush_21 t (by omega)]; exact Bool.false_ne_true)
  blk_simp [idxA t, idxB t]
  rw [after_21]
  idx_vars y
  obtain rfl : y0 = 0 := Subsingleton.elim _ _
  have e : ((View.whole main_v1_2).slice (win0_21.rect t)).emb (ix3 0 y1 y2)
      = (ix3 ⟨t.val / 2, by omega⟩ y1 y2 : S8x4x2048.Idx) := by
    blk_ext [idxA t, idxB t]
  rw [e]
  exact O21_at m c hal hsub t.val ⟨t.val / 2, by omega⟩ hodd y1 y2

/-- The values read. -/
theorem final_22 : (dats m 0 c).arrAt 22 (cfgs 0).N = fun y : S8x4x64.Idx => readN (inp m c) (y 0) (y 1) (y 2) := by
  refine (dats m 0 c).arrAt_eq_of_covers 22 _ (by decide +kernel) fun t hf y => ?_
  have ht : t.val < 16 := Nat.lt_of_lt_of_eq t.isLt N_0
  have hodd : t.val = 2 * (t.val / 2) + 1 := by
    by_contra hne
    exact absurd hf (by rw [noflush_22 t (by omega)]; exact Bool.false_ne_true)
  blk_simp [idxA t, idxB t]
  rw [after_22]
  idx_vars y
  obtain rfl : y0 = 0 := Subsingleton.elim _ _
  have e : ((View.whole main_v1_3).slice (win0_22.rect t)).emb (ix3 0 y1 y2)
      = (ix3 ⟨t.val / 2, by omega⟩ y1 y2 : S8x4x64.Idx) := by
    blk_ext [idxA t, idxB t]
  rw [e]
  exact O22_at m c hal hsub t.val ⟨t.val / 2, by omega⟩ hodd y1 y2

/-- The new usage. -/
theorem final_23 : (dats m 0 c).arrAt 23 (cfgs 0).N = fun y : S8x1x2048.Idx => useN (inp m c) (y 0) (y 2) := by
  refine (dats m 0 c).arrAt_eq_of_covers 23 _ (by decide +kernel) fun t hf y => ?_
  have ht : t.val < 16 := Nat.lt_of_lt_of_eq t.isLt N_0
  have hodd : t.val = 2 * (t.val / 2) + 1 := by
    by_contra hne
    exact absurd hf (by rw [noflush_23 t (by omega)]; exact Bool.false_ne_true)
  blk_simp [idxA t, idxB t]
  rw [after_23]
  idx_vars y
  obtain rfl : y0 = 0 := Subsingleton.elim _ _
  obtain rfl : y1 = 0 := Subsingleton.elim _ _
  have e : ((View.whole main_v1_4).slice (win0_23.rect t)).emb (ix3 0 0 y2)
      = (ix3 ⟨t.val / 2, by omega⟩ 0 y2 : S8x1x2048.Idx) := by
    blk_ext [idxA t, idxB t]
  rw [e]
  exact O23_at m c hal hsub t.val ⟨t.val / 2, by omega⟩ hodd y2

/-- The new precedence. -/
theorem final_24 : (dats m 0 c).arrAt 24 (cfgs 0).N = fun y : S8x1x2048.Idx => precN (inp m c) (y 0) (y 2) := by
  refine (dats m 0 c).arrAt_eq_of_covers 24 _ (by decide +kernel) fun t hf y => ?_
  have ht : t.val < 16 := Nat.lt_of_lt_of_eq t.isLt N_0
  blk_simp [idxA t, idxB t]
  rw [after_24]
  idx_vars y
  obtain rfl : y1 = 0 := Subsingleton.elim _ _
  have e : ((View.whole main_v1_5).slice (win0_24.rect t)).emb (ix3 y0 0 y2)
      = (ix3 y0 0 y2 : S8x1x2048.Idx) := by
    blk_ext [idxA t, idxB t]
  rw [e]
  exact O24_at m c hal t.val y0 y2

end Cert.KernelIdeal.Body

end
-- ==== Proof.Ref.Read.lean ====
/- The reference's buffers entry by entry, from its allocation weights. -/
module

public import proofs.«01_k».proof.Proof.Ref.Fin
public import proofs.«01_k».proof.Proof.Spec

@[expose] public section

set_option maxRecDepth 16384

noncomputable section

open Idealize.ShloMosaic Idealize.ShloMosaic.TcCoe Idealize.SL.Sem

namespace Cert.Ref

open Cert.ReferenceIdeal Cert.ReferenceIdeal.Gen Cert.ReferenceIdeal.Value StableHlo Cert.Dnc

attribute [local irreducible] fin

variable (m : (ℓ : Loc nD τ sig) → Buf (Elt Ideal) ℓ) (c : Dev nD)

/-- The reference's arguments, by batch entry. -/
def inp : In where
  mem b j w := (fin m c (Proc.devRef .tc main_arg0) : FVec Ideal S8x2048x64 .f32) (ix3 b j w)
  u b j := (fin m c (Proc.devRef .tc main_arg1) : FVec Ideal S8x1x2048 .f32) (ix3 b 0 j)
  rw b r j := (fin m c (Proc.devRef .tc main_arg2) : FVec Ideal S8x4x2048 .f32) (ix3 b r j)
  L b i j := (fin m c (Proc.devRef .tc main_arg3) : FVec Ideal S8x2048x2048 .f32) (ix3 b i j)
  prec b j := (fin m c (Proc.devRef .tc main_arg4) : FVec Ideal S8x1x2048 .f32) (ix3 b 0 j)
  wk b w := (fin m c (Proc.devRef .tc main_arg5) : FVec Ideal S8x1x64 .f32) (ix3 b 0 w)
  ws b := (fin m c (Proc.devRef .tc main_arg6) : FVec Ideal S8x1x1 .f32) (ix3 b 0 0)
  ag b := (fin m c (Proc.devRef .tc main_arg7) : FVec Ideal S8x1x1 .f32) (ix3 b 0 0)
  wg b := (fin m c (Proc.devRef .tc main_arg8) : FVec Ideal S8x1x1 .f32) (ix3 b 0 0)
  v b w := (fin m c (Proc.devRef .tc main_arg9) : FVec Ideal S8x1x64 .f32) (ix3 b 0 w)
  e b w := (fin m c (Proc.devRef .tc main_arg10) : FVec Ideal S8x1x64 .f32) (ix3 b 0 w)
  rk b r w := (fin m c (Proc.devRef .tc main_arg11) : FVec Ideal S8x4x64 .f32) (ix3 b r w)
  rs b r := (fin m c (Proc.devRef .tc main_arg12) : FVec Ideal S8x4x1 .f32) (ix3 b r 0)
  rm b r k := (fin m c (Proc.devRef .tc main_arg13) : FVec Ideal S8x4x3 .f32) (ix3 b r k)
  fg b j := (fin m c (Proc.devRef .tc main_arg14) : FVec Ideal S8x1x2048 .f32) (ix3 b 0 j)

/-- The allocation weights as the reference holds them. -/
def al (b : Fin 8) (j : Fin 2048) : EReal := (fin m c (Proc.devRef .tc main_v12) : FVec Ideal S8x1x2048 .f32) (ix3 b 0 j)

/-- The similarities with the write key. -/
theorem read_v22 (b : Fin 8) (j : Fin 2048) : (fin m c (Proc.devRef .tc main_v22) : FVec Ideal S8x1x2048 .f32) (ix3 b 0 j) = sim ((inp m c).mem b) ((inp m c).wk b) j := by
  rw [fin_two (y := main_v22) 45 rfl (by decide), fin_two (y := main_v21) 44 rfl (by decide), fin_one (y := main_v20) 43 rfl (by decide),
    fin_zero (y := main_cst_2) 42 rfl (by decide), fin_two (y := main_v19) 41 rfl (by decide), fin_one (y := main_v18) 40 rfl (by decide),
    fin_one (y := main_v17) 39 rfl (by decide), fin_one (y := main_v16) 38 rfl (by decide), fin_one (y := main_v15) 37 rfl (by decide),
    fin_two (y := main_call7_v1) 36 rfl (by decide), fin_zero (y := main_call7_cst) 35 rfl (by decide), fin_two (y := main_call7_v0) 34 rfl (by decide),
    fin_one (y := main_v14) 33 rfl (by decide), fin_two (y := main_call6_v1) 32 rfl (by decide), fin_zero (y := main_call6_cst) 31 rfl (by decide),
    fin_two (y := main_call6_v0) 30 rfl (by decide), fin_two (y := main_v13) 29 rfl (by decide)]
  simp -implicitDefEqProofs only [TRef.toBuf, TRef.ofBuf, cast_eq]
  pointwise
  simp only [sim, inp]

/-- The exponentials of their differences from the greatest. -/
theorem read_v29 (b : Fin 8) (j : Fin 2048) : (fin m c (Proc.devRef .tc main_v29) : FVec Ideal S8x1x2048 .f32) (ix3 b 0 j) = Ideal.exp (sim ((inp m c).mem b) ((inp m c).wk b) j - Finset.univ.fold max lowW (sim ((inp m c).mem b) ((inp m c).wk b))) := by
  rw [fin_one (y := main_v29) 54 rfl (by decide), fin_two (y := main_v28) 53 rfl (by decide), fin_one (y := main_v27) 52 rfl (by decide),
    fin_one (y := main_v26) 51 rfl (by decide), fin_two (y := main_v25) 50 rfl (by decide), fin_one (y := main_v24) 49 rfl (by decide),
    fin_zero (y := main_cst_4) 48 rfl (by decide), fin_two (y := main_v23) 47 rfl (by decide), fin_zero (y := main_cst_3) 46 rfl (by decide)]
  pointwise [read_v22 m c]
  exact congrArg Ideal.exp (congrArg₂ (fun x y : EReal => x - y) rfl (max_fold _))

/-- The write weights the content asks for. -/
theorem read_v35 (b : Fin 8) (j : Fin 2048) : (fin m c (Proc.devRef .tc main_v35) : FVec Ideal S8x1x2048 .f32) (ix3 b 0 j) = wc (inp m c) b j := by
  rw [fin_two (y := main_v35) 61 rfl (by decide), fin_one (y := main_v34) 60 rfl (by decide), fin_two (y := main_v33) 59 rfl (by decide),
    fin_one (y := main_v32) 58 rfl (by decide), fin_one (y := main_v31) 57 rfl (by decide), fin_two (y := main_v30) 56 rfl (by decide),
    fin_zero (y := main_cst_5) 55 rfl (by decide)]
  pointwise [read_v29 m c]
  simp only [wc, soft, inp]

/-- The write weights. -/
theorem read_v41 (b : Fin 8) (j : Fin 2048) : (fin m c (Proc.devRef .tc main_v41) : FVec Ideal S8x1x2048 .f32) (ix3 b 0 j) = wwOf (inp m c) (al m c) b j := by
  rw [fin_two (y := main_v41) 67 rfl (by decide), fin_one (y := main_v40) 66 rfl (by decide), fin_two (y := main_v39) 65 rfl (by decide),
    fin_two (y := main_v38) 64 rfl (by decide), fin_one (y := main_v37) 63 rfl (by decide), fin_two (y := main_v36) 62 rfl (by decide)]
  pointwise [read_v35 m c]
  simp only [wwOf, al, inp]

/-- The write weights, with the allocation weights known. -/
theorem read_ww (hal : ∀ b j, al m c b j = alloc ((inp m c).u b) j) (b : Fin 8) (j : Fin 2048) :
    (fin m c (Proc.devRef .tc main_v41) : FVec Ideal S8x1x2048 .f32) (ix3 b 0 j) = ww (inp m c) b j := by
  rw [read_v41]
  unfold ww wwOf
  rw [hal]

variable (hal : ∀ b j, al m c b j = alloc ((inp m c).u b) j)

include hal

/-- The new memory. -/
theorem read_v48 (b : Fin 8) (j : Fin 2048) (w : Fin 64) : (fin m c (Proc.devRef .tc main_v48) : FVec Ideal S8x2048x64 .f32) (ix3 b j w) = memN (inp m c) b j w := by
  rw [fin_two (y := main_v48) 75 rfl (by decide), fin_two (y := main_v47) 74 rfl (by decide), fin_two (y := main_v46) 73 rfl (by decide),
    fin_two (y := main_v45) 72 rfl (by decide), fin_one (y := main_v44) 71 rfl (by decide), fin_zero (y := main_cst_6) 70 rfl (by decide),
    fin_two (y := main_v43) 69 rfl (by decide), fin_one (y := main_v42) 68 rfl (by decide)]
  pointwise [read_ww m c hal]
  simp only [Fin.sum_univ_one, memN, inp]

/-- The new temporal link. -/
theorem read_v56 (b : Fin 8) (i j : Fin 2048) : (fin m c (Proc.devRef .tc main_v56) : FVec Ideal S8x2048x2048 .f32) (ix3 b i j) = linkN (inp m c) b i j := by
  rw [fin_two (y := main_v56) 84 rfl (by decide), fin_two (y := main_v55) 83 rfl (by decide), fin_two (y := main_v54) 82 rfl (by decide),
    fin_two (y := main_v53) 81 rfl (by decide), fin_one (y := main_v52) 80 rfl (by decide), fin_zero (y := main_cst_7) 79 rfl (by decide),
    fin_two (y := main_v51) 78 rfl (by decide), fin_one (y := main_v50) 77 rfl (by decide), fin_one (y := main_v49) 76 rfl (by decide),
    fin_one (y := main_v42) 68 rfl (by decide)]
  pointwise [read_ww m c hal]
  simp only [Fin.sum_univ_one, linkN, inp]

/-- The new precedence. -/
theorem read_v61 (b : Fin 8) (j : Fin 2048) : (fin m c (Proc.devRef .tc main_v61) : FVec Ideal S8x1x2048 .f32) (ix3 b 0 j) = precN (inp m c) b j := by
  rw [fin_two (y := main_v61) 91 rfl (by decide), fin_two (y := main_v60) 90 rfl (by decide), fin_one (y := main_v59) 89 rfl (by decide),
    fin_two (y := main_v58) 88 rfl (by decide), fin_zero (y := main_cst_9) 87 rfl (by decide), fin_two (y := main_v57) 86 rfl (by decide),
    fin_zero (y := main_cst_8) 85 rfl (by decide)]
  pointwise [read_ww m c hal]
  simp only [Fin.sum_univ_one, read_ww m c hal, precN, inp]

/-- The forward weights. -/
theorem read_v63 (b : Fin 8) (r : Fin 4) (j : Fin 2048) : (fin m c (Proc.devRef .tc main_v63) : FVec Ideal S8x4x2048 .f32) (ix3 b r j) = ∑ k, (inp m c).rw b r k * linkN (inp m c) b j k := by
  rw [fin_two (y := main_v63) 93 rfl (by decide), fin_one (y := main_v62) 92 rfl (by decide)]
  pointwise [read_v56 m c hal]
  simp only [inp]

/-- The backward weights. -/
theorem read_v64 (b : Fin 8) (r : Fin 4) (j : Fin 2048) : (fin m c (Proc.devRef .tc main_v64) : FVec Ideal S8x4x2048 .f32) (ix3 b r j) = ∑ k, (inp m c).rw b r k * linkN (inp m c) b k j := by
  rw [fin_two (y := main_v64) 94 rfl (by decide)]
  pointwise [read_v56 m c hal]
  simp only [inp]

/-- The similarities with the read keys. -/
theorem read_v75 (b : Fin 8) (r : Fin 4) (j : Fin 2048) : (fin m c (Proc.devRef .tc main_v75) : FVec Ideal S8x4x2048 .f32) (ix3 b r j) = sim (memN (inp m c) b) ((inp m c).rk b r) j := by
  rw [fin_two (y := main_v75) 112 rfl (by decide), fin_two (y := main_v74) 111 rfl (by decide), fin_one (y := main_v73) 110 rfl (by decide),
    fin_zero (y := main_cst_10) 109 rfl (by decide), fin_two (y := main_v72) 108 rfl (by decide), fin_one (y := main_v71) 107 rfl (by decide),
    fin_one (y := main_v70) 106 rfl (by decide), fin_one (y := main_v69) 105 rfl (by decide), fin_one (y := main_v68) 104 rfl (by decide),
    fin_one (y := main_v67) 103 rfl (by decide), fin_two (y := main_call9_v1) 102 rfl (by decide), fin_zero (y := main_call9_cst) 101 rfl (by decide),
    fin_two (y := main_call9_v0) 100 rfl (by decide), fin_one (y := main_v66) 99 rfl (by decide), fin_two (y := main_call8_v1) 98 rfl (by decide),
    fin_zero (y := main_call8_cst) 97 rfl (by decide), fin_two (y := main_call8_v0) 96 rfl (by decide), fin_two (y := main_v65) 95 rfl (by decide)]
  simp -implicitDefEqProofs only [TRef.toBuf, TRef.ofBuf, cast_eq]
  pointwise [read_v48 m c hal]
  simp only [sim, inp]

/-- The exponentials of their differences from the greatest. -/
theorem read_v82 (b : Fin 8) (r : Fin 4) (j : Fin 2048) : (fin m c (Proc.devRef .tc main_v82) : FVec Ideal S8x4x2048 .f32) (ix3 b r j) = Ideal.exp (sim (memN (inp m c) b) ((inp m c).rk b r) j - Finset.univ.fold max lowW (sim (memN (inp m c) b) ((inp m c).rk b r))) := by
  rw [fin_one (y := main_v82) 121 rfl (by decide), fin_two (y := main_v81) 120 rfl (by decide), fin_one (y := main_v80) 119 rfl (by decide),
    fin_one (y := main_v79) 118 rfl (by decide), fin_two (y := main_v78) 117 rfl (by decide), fin_one (y := main_v77) 116 rfl (by decide),
    fin_zero (y := main_cst_12) 115 rfl (by decide), fin_two (y := main_v76) 114 rfl (by decide), fin_zero (y := main_cst_11) 113 rfl (by decide)]
  pointwise [read_v75 m c hal]
  exact congrArg Ideal.exp (congrArg₂ (fun x y : EReal => x - y) rfl (max_fold _))

/-- The content weights of the read heads. -/
theorem read_v88 (b : Fin 8) (r : Fin 4) (j : Fin 2048) : (fin m c (Proc.devRef .tc main_v88) : FVec Ideal S8x4x2048 .f32) (ix3 b r j) = cw (inp m c) b r j := by
  rw [fin_two (y := main_v88) 128 rfl (by decide), fin_one (y := main_v87) 127 rfl (by decide), fin_two (y := main_v86) 126 rfl (by decide),
    fin_one (y := main_v85) 125 rfl (by decide), fin_one (y := main_v84) 124 rfl (by decide), fin_two (y := main_v83) 123 rfl (by decide),
    fin_zero (y := main_cst_13) 122 rfl (by decide)]
  pointwise [read_v82 m c hal]
  simp only [cw, soft, inp]

/-- The new read weights. -/
theorem read_v99 (b : Fin 8) (r : Fin 4) (j : Fin 2048) : (fin m c (Proc.devRef .tc main_v99) : FVec Ideal S8x4x2048 .f32) (ix3 b r j) = rwN (inp m c) b r j := by
  rw [fin_two (y := main_v99) 139 rfl (by decide), fin_two (y := main_v98) 138 rfl (by decide), fin_one (y := main_v97) 137 rfl (by decide),
    fin_two (y := main_v96) 136 rfl (by decide), fin_two (y := main_v95) 135 rfl (by decide), fin_one (y := main_v94) 134 rfl (by decide),
    fin_two (y := main_v93) 133 rfl (by decide), fin_one (y := main_v92) 132 rfl (by decide), fin_one (y := main_v91) 131 rfl (by decide),
    fin_one (y := main_v90) 130 rfl (by decide), fin_one (y := main_v89) 129 rfl (by decide)]
  pointwise [read_v63 m c hal, read_v64 m c hal, read_v88 m c hal]
  simp only [rwN, inp]

/-- The values read. -/
theorem read_v100 (b : Fin 8) (r : Fin 4) (w : Fin 64) : (fin m c (Proc.devRef .tc main_v100) : FVec Ideal S8x4x64 .f32) (ix3 b r w) = readN (inp m c) b r w := by
  rw [fin_two (y := main_v100) 140 rfl (by decide)]
  pointwise [read_v99 m c hal, read_v48 m c hal]
  simp only [readN, inp]

/-- The new usage. -/
theorem read_v114 (b : Fin 8) (j : Fin 2048) : (fin m c (Proc.devRef .tc main_v114) : FVec Ideal S8x1x2048 .f32) (ix3 b 0 j) = useN (inp m c) b j := by
  rw [fin_two (y := main_v114) 155 rfl (by decide), fin_two (y := main_v113) 154 rfl (by decide), fin_two (y := main_v112) 153 rfl (by decide),
    fin_two (y := main_v111) 152 rfl (by decide), fin_two (y := main_v110) 151 rfl (by decide), fin_one (y := main_v109) 150 rfl (by decide),
    fin_zero (y := main_cst_14) 149 rfl (by decide), fin_two (y := main_v108) 148 rfl (by decide), fin_two (y := main_v107) 147 rfl (by decide),
    fin_one (y := main_v106) 146 rfl (by decide), fin_two (y := main_v105) 145 rfl (by decide), fin_one (y := main_v104) 144 rfl (by decide),
    fin_two (y := main_v103) 143 rfl (by decide), fin_one (y := main_v102) 142 rfl (by decide), fin_one (y := main_v101) 141 rfl (by decide)]
  pointwise [read_ww m c hal, read_v99 m c hal]
  simp only [useN, inp]

end Cert.Ref

end
-- ==== Proof.Ref.Order.lean ====
/- The order in which a stable sort by usage leaves the cells. -/
module

public import proofs.«01_k».proof.Proof.Spec
public import Idealize.ShloMosaic.Lib.SortPrefix

@[expose] public section

set_option maxRecDepth 16384

noncomputable section

open Idealize.ShloMosaic

namespace Cert.Dnc

/-- Comparisons that order the positions alike sort alike. -/
theorem sortedFrom_eq {n : ℕ} {R R' : Fin n → Fin n → Bool} (e : sortPositions n R = sortPositions n R') : sortedFrom R = sortedFrom R' := by
  funext k
  unfold sortedFrom
  simp only [List.get_eq_getElem, e, Fin.val_cast]

/-- A strictly increasing map of the positions into themselves is the identity. -/
theorem increasing_id {n : ℕ} (f : Fin n → Fin n) (hf : StrictMono f) (i : Fin n) : f i = i := by
  have := Subsingleton.elim (StrictMono.orderIsoOfSurjective f hf (Finite.surjective_of_injective hf.injective)) (OrderIso.refl (Fin n))
  exact congrArg (fun g : Fin n ≃o Fin n => g i) this

/-- Sorting the positions by distinct keys puts the keys in increasing order. -/
theorem sorted_increasing {n : ℕ} {g : Fin n → Fin n} (hg : Function.Injective g) :
    StrictMono fun i => g (sortedFrom (fun k k' => decide (g k < g k')) i) := fun a b h => by
  refine lt_of_le_of_ne ?_ fun e => ne_of_lt h (sortedFrom_injective _ (hg e))
  have := sortedFrom_noInversion (fun k k' => decide (g k < g k')) (fun k k' => decide (g k < g k'))
    (fun a b h => decide_eq_false (lt_asymm (of_decide_eq_true h))) (fun _ _ h => h)
    (fun a b c h1 h2 => decide_eq_false (not_lt.mpr ((not_lt.mp (of_decide_eq_false h2)).trans (not_lt.mp (of_decide_eq_false h1))))) a b h
  exact not_lt.mp (of_decide_eq_false this)

/-- A product over the naturals below `m ≤ n`, as a product over all positions. -/
theorem prod_below {n : ℕ} (g : Fin n → EReal) (m : ℕ) (h : m ≤ n) :
    (∏ k ∈ Finset.range m, if h : k < n then g ⟨k, h⟩ else 1) = ∏ k : Fin n, if k.val < m then g k else 1 := by
  have e : ∀ k : Fin n, (if k.val < m then g k else 1) = (fun k : ℕ => if k < m then (if h : k < n then g ⟨k, h⟩ else 1) else 1) k.val := fun k => by
    simp only [k.isLt, dif_pos]
  rw [Finset.prod_congr rfl fun k _ => e k, ← Finset.prod_range fun k : ℕ => if k < m then (if h : k < n then g ⟨k, h⟩ else 1) else 1, ← Finset.prod_filter]
  refine Finset.prod_congr ?_ fun _ _ => rfl
  ext k
  simp only [Finset.mem_range, Finset.mem_filter]
  omega

variable (u : Fin 2048 → EReal)

/-- The comparison the cells are sorted by. -/
abbrev less (k k' : Fin 2048) : Bool := decide (u k < u k')

/-- The comparison of two cells with equal usages in the order of the cells. -/
abbrev prior (k k' : Fin 2048) : Bool := decide (Before u k k')

/-- Where equal usages go in the order of the cells, the two comparisons sort alike. -/
theorem stableSort_less (l : List (Fin 2048)) (hl : l.Pairwise (· < ·)) : stableSort (less u) l = stableSort (prior u) l := by
  induction l with
  | nil => rfl
  | cons a l ih =>
    obtain ⟨ha, hl'⟩ := List.pairwise_cons.mp hl
    unfold stableSort
    rw [ih hl']
    refine insertBefore_congr _ _ a _ fun b hb => decide_eq_decide.mpr ?_
    have hab := ha b ((perm_stableSort _ l).mem_iff.mp hb)
    exact ⟨Or.inl, fun h => h.elim id fun h => absurd h.2 (lt_asymm hab)⟩

/-- The sort's source positions, by either comparison. -/
theorem sortedFrom_less : sortedFrom (less u) = sortedFrom (prior u) := by
  exact sortedFrom_eq (stableSort_less u _ (List.pairwise_lt_finRange _))

/-- The second comparison is a strict total order. -/
theorem prior_total : StrictTotalBefore (prior u) where
  irrefl a := decide_eq_false fun h => h.elim (lt_irrefl _) fun h => lt_irrefl _ h.2
  trans a b c h1 h2 := by
    have h1 := of_decide_eq_true h1
    have h2 := of_decide_eq_true h2
    refine decide_eq_true ?_
    rcases h1 with h1 | h1 <;> rcases h2 with h2 | h2
    · exact Or.inl (h1.trans h2)
    · exact Or.inl (h2.1 ▸ h1)
    · exact Or.inl (h1.1 ▸ h2)
    · exact Or.inr ⟨h1.1.trans h2.1, h1.2.trans h2.2⟩
  total a b hab := by
    rcases lt_trichotomy (u a) (u b) with h | h | h
    · exact Or.inl (decide_eq_true (Or.inl h))
    · rcases lt_or_gt_of_ne hab with h' | h'
      · exact Or.inl (decide_eq_true (Or.inr ⟨h, h'⟩))
      · exact Or.inr (decide_eq_true (Or.inr ⟨h.symm, h'⟩))
    · exact Or.inr (decide_eq_true (Or.inl h))

/-- The cell that the sort puts at a position. -/
def place (k : Fin 2048) : Fin 2048 := sortedFrom (less u) k

/-- Cells go before one another as their positions do. -/
theorem before_place (k k' : Fin 2048) : Before u (place u k) (place u k') ↔ k < k' := by
  have hT := prior_total u
  have up : ∀ a b : Fin 2048, a < b → Before u (place u a) (place u b) := fun a b h => by
    have hf : prior u (place u b) (place u a) = false := by
      unfold place
      rw [sortedFrom_less]
      exact sortedFrom_noInversion (prior u) (prior u) hT.asymm (fun _ _ h => h) hT.negTrans a b h
    rcases hT.total (place u a) (place u b) (fun e => (ne_of_lt h) (sortedFrom_injective _ e)) with h' | h'
    · exact of_decide_eq_true h'
    · rw [h'] at hf
      exact absurd hf (by decide)
  refine ⟨fun h => ?_, up k k'⟩
  rcases lt_trichotomy k k' with h' | h' | h'
  · exact h'
  · subst h'
    exact absurd h (of_decide_eq_false (hT.irrefl _))
  · have := hT.asymm _ _ (decide_eq_true (up k' k h'))
    exact absurd h (of_decide_eq_false this)

/-- The position of a cell: the sort of the positions' cells puts it back. -/
def back (i : Fin 2048) : Fin 2048 := sortedFrom (fun k k' : Fin 2048 => decide (place u k < place u k')) i

/-- The cell at the position of a cell is the cell. -/
theorem place_back (i : Fin 2048) : place u (back u i) = i :=
  increasing_id _ (sorted_increasing (sortedFrom_injective (less u))) i

/-- The product of the first usages, in sorted order. -/
def run (n : ℕ) : EReal := ∏ k ∈ Finset.range n, if h : k < 2048 then u (place u ⟨k, h⟩) else 1

/-- The product of no usages is one. -/
theorem run_zero : run u 0 = 1 := rfl

/-- One more usage in the running product. -/
theorem run_succ (k : Fin 2048) : run u (k.val + 1) = run u k.val * u (place u k) := by
  unfold run
  rw [Finset.prod_range_succ, dif_pos k.isLt]

/-- The product of the usages of the cells before a cell. -/
theorem run_back (i : Fin 2048) : run u (back u i).val = ∏ j : Fin 2048, if Before u j i then u j else 1 := by
  have bij : Function.Bijective (place u) := ⟨sortedFrom_injective _, sortedFrom_surjective _⟩
  rw [← bij.prod_comp fun j => if Before u j i then u j else 1]
  have e : ∀ k : Fin 2048, (if Before u (place u k) i then u (place u k) else 1) = if k.val < (back u i).val then u (place u k) else 1 := fun k => by
    refine if_congr ?_ rfl rfl
    conv_lhs => rw [← place_back u i]
    exact before_place u k (back u i)
  rw [Finset.prod_congr rfl fun k _ => e k]
  exact prod_below (fun k => u (place u k)) _ (back u i).isLt.le

/-- A real factor other than zero divides out. -/
theorem div_factor (x a : EReal) (h0 : a ≠ 0) (ht : a ≠ ⊤) (hb : a ≠ ⊥) : Ideal.div (x * a) a = x := by
  lift a to ℝ using ⟨ht, hb⟩
  have ha : a ≠ 0 := fun h => h0 (by rw [h]; rfl)
  rw [Ideal.div_coe ha, mul_assoc, ← EReal.coe_mul, mul_one_div_cancel ha]
  exact mul_one x

/-- The allocation read off the sorted usages: the running product through a cell's position over the cell's
    usage, weighted by what the usage leaves. -/
theorem alloc_run (i : Fin 2048) (h0 : u i ≠ 0) (ht : u i ≠ ⊤) (hb : u i ≠ ⊥) :
    (1 - u (place u (back u i))) * Ideal.div (run u ((back u i).val + 1)) (u (place u (back u i))) = alloc u i := by
  rw [run_succ, place_back, div_factor _ _ h0 ht hb, run_back]
  rfl

end Cert.Dnc

end
-- ==== Proof.Ref.Loop.lean ====
/- The reference's sorts, and its running product over the sorted usages. -/
module

public import proofs.«01_k».proof.Proof.Ref.Read
public import proofs.«01_k».proof.Proof.Ref.Order

@[expose] public section

set_option maxRecDepth 16384

noncomputable section

open Idealize.ShloMosaic Idealize.ShloMosaic.TcCoe Idealize.SL.Sem

namespace Cert.Ref

open Cert.ReferenceIdeal Cert.ReferenceIdeal.Gen Cert.ReferenceIdeal.Value StableHlo Cert.Dnc

/-- A reshape after the loop. -/
theorem fin_reshape {m : (ℓ : Loc nD τ sig) → Buf (Elt Ideal) ℓ} {c : Dev nD} (k : ℕ) {x y : Ref sig .tc} {he hn hx hy}
    (hk : (postOps (F := Ideal))[k]? = some (reshape x y he hn hx hy)) (h : y ∉ postW.drop (k + 1) ∧ x ∉ postW.drop k) :
    fin m c (Proc.devRef .tc y) = fun i => he ▸ shapeCast y.ty.shape (fin m c (Proc.devRef .tc x)) hn i := by
  rw [fin, written_at postOps_writes _ k hk h.1, reshape_result, keep_from postOps_writes _ k h.2]

attribute [local irreducible] fin

/-- The sort compares a number by itself: zero by zero, and no number differs from itself. -/
theorem canon (x : Ideal .f32) : Scalar.select (FloatOps.cmpf (F := Ideal) .une x x) (FloatOps.ofBits .f32 0x7FC00000#32)
    (Scalar.select (FloatOps.cmpf (F := Ideal) .oeq x (FloatOps.ofBits .f32 0x00000000#32)) (FloatOps.ofBits .f32 0x00000000#32) x) = x := by
  have h1 : FloatOps.cmpf (F := Ideal) .une x x = 0#1 := congrArg BitVec.ofBool (decide_eq_false fun h => h rfl)
  have h2 : FloatOps.cmpf (F := Ideal) .oeq x (FloatOps.ofBits .f32 0x00000000#32) = BitVec.ofBool (decide (x = FloatOps.ofBits .f32 0x00000000#32)) := rfl
  rw [h1, h2]
  by_cases h : x = FloatOps.ofBits .f32 0x00000000#32
  · rw [decide_eq_true h, ← h]; rfl
  · rw [decide_eq_false h]; rfl

/-- The order that the usages are sorted by is the order of the numbers. -/
theorem comparator_at (l r : Ideal .f32) : (comparator_f32_d2 (F := Ideal) l r == 1#1) = decide (l < r) := by
  unfold comparator_f32_d2
  simp only [canon]
  show (BitVec.ofBool (decide (l < r)) == 1#1) = _
  cases decide (l < r) <;> rfl

/-- The word of a position, read as an integer. -/
theorem word_toInt (n : ℕ) (hn : n < 2048) : (BitVec.ofNat 32 n).toInt = n := by
  have e2 : (BitVec.ofNat 32 n).toNat = n := by rw [BitVec.toNat_ofNat]; exact Nat.mod_eq_of_lt (by omega)
  rw [BitVec.toInt_eq_toNat_of_lt (by omega), e2]

/-- Words of positions compare as the positions. -/
theorem word_lt (p q : ℕ) (hp : p < 2048) (hq : q < 2048) :
    (IntOp.cmpi .slt (BitVec.ofNat 32 p) (BitVec.ofNat 32 q) == 1#1) = decide (p < q) := by
  show (BitVec.ofBool ((BitVec.ofNat 32 p).slt (BitVec.ofNat 32 q)) == 1#1) = _
  rw [BitVec.slt_eq_decide, word_toInt p hp, word_toInt q hq, decide_eq_decide.mpr Nat.cast_lt]
  cases decide (p < q) <;> rfl

/-- Moving along the last axis. -/
theorem along_at (b : Fin 8) (k q : Fin 2048) : (ix3 b 0 k : S8x1x2048.Idx).along 2 q = ix3 b 0 q := by
  funext a
  match a with
  | ⟨0, _⟩ => rfl
  | ⟨1, _⟩ => rfl
  | ⟨2, _⟩ => rfl

/-- A sort along the last axis, at an index. -/
theorem sortBy_at {ι α : Type} (cmp : ι → ι → BitVec 1) (rows : S8x1x2048.Idx → ι) (x : S8x1x2048.Idx → α) (b : Fin 8) (k : Fin 2048) :
    Host.sortBy S8x1x2048 2 cmp rows x (ix3 b 0 k) = x (ix3 b 0 (sortedFrom (fun p q : Fin 2048 => cmp (rows (ix3 b 0 p)) (rows (ix3 b 0 q)) == 1#1) k)) := by
  unfold Host.sortBy
  rw [dif_pos (by decide)]
  refine congrArg x ((along_at b k _).trans (congrArg (fun q : Fin 2048 => (ix3 b 0 q : S8x1x2048.Idx)) ?_))
  refine congrArg (fun B : Fin 2048 → Fin 2048 → Bool => sortedFrom B k) (funext fun p => funext fun q => ?_)
  exact congrArg₂ (fun i j => cmp (rows i) (rows j) == 1#1) (along_at b k p) (along_at b k q)

/-- The sorted usages. -/
theorem sort_at (x : FVec Ideal S8x1x2048 .f32) (b : Fin 8) (k : Fin 2048) :
    Host.sort S8x1x2048 2 comparator_f32_d2 x (ix3 b 0 k) = x (ix3 b 0 (place (fun j => x (ix3 b 0 j)) k)) := by
  rw [Host.sort_eq_sortBy, sortBy_at]
  simp only [comparator_at]
  rfl

/-- The positions that the sorted usages come from. -/
theorem argsort_at (x : FVec Ideal S8x1x2048 .f32) (b : Fin 8) (k : Fin 2048) :
    (Host.sort2 S8x1x2048 2 comparator_f32_i32_d2 x (iotaInDim S8x1x2048 32 2)).2 (ix3 b 0 k) = BitVec.ofNat 32 (place (fun j => x (ix3 b 0 j)) k).val := by
  rw [Host.sort2_eq_sortBy]
  refine (sortBy_at comparator_f32_i32_d2 (fun j => (x j, iotaInDim S8x1x2048 32 2 j)) (iotaInDim S8x1x2048 32 2) b k).trans ?_
  have e : ∀ l r : Ideal .f32 × BitVec 32, comparator_f32_i32_d2 (F := Ideal) l r = comparator_f32_d2 (F := Ideal) l.1 r.1 := fun _ _ => rfl
  simp only [e, comparator_at]
  rfl

/-- The positions that the usages go to. -/
theorem argsort2_at (x : FVec Ideal S8x1x2048 .f32) (b : Fin 8) (i : Fin 2048) :
    (Host.sort2 S8x1x2048 2 comparator_i32_i32_d2 (Host.sort2 S8x1x2048 2 comparator_f32_i32_d2 x (iotaInDim S8x1x2048 32 2)).2 (iotaInDim S8x1x2048 32 2)).2 (ix3 b 0 i)
      = BitVec.ofNat 32 (back (fun j => x (ix3 b 0 j)) i).val := by
  rw [Host.sort2_eq_sortBy]
  refine (sortBy_at comparator_i32_i32_d2 (fun j => ((Host.sort2 S8x1x2048 2 comparator_f32_i32_d2 x (iotaInDim S8x1x2048 32 2)).2 j, iotaInDim S8x1x2048 32 2 j))
    (iotaInDim S8x1x2048 32 2) b i).trans ?_
  have e : ∀ l r : BitVec 32 × BitVec 32, comparator_i32_i32_d2 l r = IntOp.cmpi .slt l.1 r.1 := fun _ _ => rfl
  simp only [e, argsort_at, word_lt _ _ (Fin.isLt _) (Fin.isLt _)]
  rfl

/-- The gather reads the position that its index names. -/
theorem gather_at (x : FVec Ideal S8x1x2048 .f32) (idx : IVec S8x2048x1 32) (b : Fin 8) (j q : Fin 2048) (h : idx (ix3 b j 0) = BitVec.ofNat 32 q.val) :
    Host.gather gather_S8x1x2048_S8x2048x1_S8x1x2048_1_2_0_0_2_2_111 x idx (ix3 b 0 j) = x (ix3 b 0 q) := by
  refine congrArg x (funext fun a => ?_)
  have split : ∀ a, (GatherDims.operandIdx gather_S8x1x2048_S8x2048x1_S8x1x2048_1_2_0_0_2_2_111 (ix3 b 0 j) idx a).val
      = GatherDims.start gather_S8x1x2048_S8x2048x1_S8x1x2048_1_2_0_0_2_2_111 (ix3 b 0 j) idx a
        + GatherDims.batchCoord gather_S8x1x2048_S8x2048x1_S8x1x2048_1_2_0_0_2_2_111 (ix3 b 0 j) a
        + GatherDims.offCoord gather_S8x1x2048_S8x2048x1_S8x1x2048_1_2_0_0_2_2_111 (ix3 b 0 j) a := fun _ => rfl
  match a with
  | ⟨0, h0⟩ =>
    refine Fin.ext ((split _).trans ?_)
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, h0⟩ : Fin S8x1x2048.rank) ∈ gather_S8x1x2048_S8x2048x1_S8x1x2048_1_2_0_0_2_2_111.operandBatchingDims from List.mem_singleton.mpr rfl)]
    rfl
  | ⟨1, h1⟩ => exact Subsingleton.elim (α := Fin 1) _ _
  | ⟨2, h2⟩ =>
    refine Fin.ext ((split _).trans ?_)
    rw [GatherDims.batchCoord_eq_zero _ _ _ (fun h => absurd (congrArg Fin.val (List.mem_singleton.mp h)) (show ¬(2 : ℕ) = 0 by decide)),
      GatherDims.offCoord_eq_zero _ _ _ (fun h => ((GatherDims.mem_sKept _ _).mp h).1 (List.mem_singleton.mpr rfl))]
    simp only [Nat.add_zero]
    unfold GatherDims.start
    have hm : (⟨2, h2⟩ : Fin S8x1x2048.rank) ∈ gather_S8x1x2048_S8x2048x1_S8x1x2048_1_2_0_0_2_2_111.startIndexMap := List.mem_singleton.mpr rfl
    rw [dif_pos hm]
    have hsi : GatherDims.siIdx gather_S8x1x2048_S8x2048x1_S8x1x2048_1_2_0_0_2_2_111 (ix3 b 0 j)
        ⟨List.idxOf (⟨2, h2⟩ : Fin S8x1x2048.rank) gather_S8x1x2048_S8x2048x1_S8x1x2048_1_2_0_0_2_2_111.startIndexMap, List.idxOf_lt_length_iff.2 hm⟩ = ix3 b j 0 := by
      funext a
      match a with
      | ⟨0, _⟩ => rfl
      | ⟨1, _⟩ => rfl
      | ⟨2, _⟩ => rfl
    rw [hsi, h, word_toInt _ q.isLt]
    show min q.val 2047 = q.val
    omega

variable (m : (ℓ : Loc nD τ sig) → Buf (Elt Ideal) ℓ) (c : Dev nD)

/-- The usages as the launch holds them. -/
def uArg : FVec Ideal S8x1x2048 .f32 := m ((c.tc : Thread nD τ).loc main_arg1)

/-- When the loop starts, the first array holds the sorted usages. -/
theorem entry_v0 : entryContents preI m c (Proc.devRef .tc main_v0) = Host.sort S8x1x2048 2 comparator_f32_d2 (uArg m c) := by
  simp only [entryContents, afterL_cons, afterL_nil]
  after_reads_simp
  rfl

/-- When the loop starts, this array holds the place of each cell in the sort: the argument sort of the argument sort. -/
theorem entry_v2 : entryContents preI m c (Proc.devRef .tc main_v2)
    = (Host.sort2 S8x1x2048 2 comparator_i32_i32_d2 (Host.sort2 S8x1x2048 2 comparator_f32_i32_d2 (uArg m c) (iotaInDim S8x1x2048 32 2)).2 (iotaInDim S8x1x2048 32 2)).2 := by
  simp only [entryContents, afterL_cons, afterL_nil]
  after_reads_simp
  rfl

/-- The loop's factors are the sorted usages, one slice of the batch a step. -/
theorem entry_v6_0 : entryContents preI m c (Proc.devRef .tc main_v6_0)
    = transpose S2048x8x1 [2, 0, 1] (Host.sort S8x1x2048 2 comparator_f32_d2 (uArg m c)) transposes_S8x1x2048_S2048x8x1_2_0_1 := by
  simp only [entryContents, afterL_cons, afterL_nil]
  after_reads_simp
  rfl

/-- The running product starts at one. -/
theorem entry_v6_2 : entryContents preI m c (Proc.devRef .tc main_v6_2) = (broadcastInDim S8x1 ![] bcast_S_S8x1 (constant S_ .f32 0x3F800000#32) : FVec Ideal S8x1 .f32) := by
  simp only [entryContents, afterL_cons, afterL_nil]
  after_reads_simp
  rfl

/-- The offsets of a row are in range. -/
theorem starts (k : Fin 2048) (s : Fin 3 → Int) (hs : s 0 = k.val ∧ s 1 = 0 ∧ s 2 = 0) :
    (∀ h, Host.clampedStart S2048x8x1 S1x8x1 h s 0 = k.val) ∧ (∀ h, Host.clampedStart S2048x8x1 S1x8x1 h s 1 = 0)
      ∧ ∀ h, Host.clampedStart S2048x8x1 S1x8x1 h s 2 = 0 :=
  ⟨fun h => Host.clampedStart_of_le h s 0 k.val hs.1 k.isLt, fun h => Host.clampedStart_of_le h s 1 0 hs.2.1 (Nat.le_refl 8),
    fun h => Host.clampedStart_of_le h s 2 0 hs.2.2 (Nat.le_refl 1)⟩

/-- A trip reads the row that its counter names. -/
theorem row_at (x : FVec Ideal S2048x8x1 .f32) (k : Fin 2048) (s : Fin 3 → Int) (hs : s 0 = k.val ∧ s 1 = 0 ∧ s 2 = 0) (b : Fin 8) :
    shapeCast S8x1 (Host.dynamicSlice S1x8x1 x s sliceFits_S2048x8x1_S1x8x1) shapeCasts_S1x8x1_S8x1 (ix2 b 0) = x (ix3 k b 0) := by
  obtain ⟨c0, c1, c2⟩ := starts k s hs
  pointwise
  simp only [c0, c1, c2, Nat.zero_add]
  rfl

/-- A trip writes that row and no other. -/
theorem put_at (x : FVec Ideal S2048x8x1 .f32) (y : FVec Ideal S8x1 .f32) (k : Fin 2048) (s : Fin 3 → Int) (hs : s 0 = k.val ∧ s 1 = 0 ∧ s 2 = 0) (j : Fin 2048) (b : Fin 8) :
    Host.dynamicUpdateSlice x (broadcastInDim S1x8x1 ![1, 2] bcast_S8x1_S1x8x1_1_2 y) s updateFits_S2048x8x1_S1x8x1 (ix3 j b 0)
      = if j = k then y (ix2 b 0) else x (ix3 j b 0) := by
  obtain ⟨c0, c1, c2⟩ := starts k s hs
  pointwise
  simp only [c0, c1, c2]
  by_cases hj : j = k
  · rw [if_pos hj, dif_pos ⟨⟨hj ▸ le_rfl, by omega⟩, ⟨Nat.zero_le _, by omega⟩, le_rfl, Nat.one_pos⟩]
    rfl
  · rw [if_neg hj, dif_neg fun h => hj (Fin.ext (by omega))]

/-- What the loop holds after `k` trips: the sorted usages, the counter, the running product, and the products so far. -/
structure Trip (X : Valuation τ sig (Elt Ideal)) (u : Fin 8 → Fin 2048 → EReal) (k : ℕ) : Prop where
  rows : ∀ j b, (X (Proc.devRef .tc main_v6_0) : FVec Ideal S2048x8x1 .f32) (ix3 j b 0) = u b (place (u b) j)
  ctr : X (Proc.devRef .tc main_v6_1) = fun _ => BitVec.ofNat 32 k
  prod : ∀ b, (X (Proc.devRef .tc main_v6_2) : FVec Ideal S8x1 .f32) (ix2 b 0) = run (u b) k
  done : ∀ j b, j.val < k → (X (Proc.devRef .tc main_v6_3) : FVec Ideal S2048x8x1 .f32) (ix3 j b 0) = run (u b) (j.val + 1)

/-- A trip's offsets. -/
def offs (X : Valuation τ sig (Elt Ideal)) : Fin 3 → Int := fun a =>
  (((![X (Proc.devRef .tc main_v6_1), constantI S_ 32 0#32, constantI S_ 32 0#32] : Fin 3 → (⟨S_, .i32⟩ : BufTy).Contents (Elt Ideal))) a (Shape.Idx.first h_S_)).toInt

/-- They are the counter and zeros. -/
theorem start_at (X : Valuation τ sig (Elt Ideal)) (k : Fin 2048) (h : X (Proc.devRef .tc main_v6_1) = fun _ => BitVec.ofNat 32 k.val) :
    offs X 0 = k.val ∧ offs X 1 = 0 ∧ offs X 2 = 0 := by
  refine ⟨?_, rfl, rfl⟩
  show (X (Proc.devRef .tc main_v6_1) (Shape.Idx.first h_S_) : BitVec 32).toInt = _
  rw [h]
  exact word_toInt _ k.isLt

/-- The product after a trip. -/
theorem res_at (X : Valuation τ sig (Elt Ideal)) (u : Fin 8 → Fin 2048 → EReal) (k : Fin 2048) (h : Trip X u k.val) (b : Fin 8) :
    (res_main_while0b_v116 X : FVec Ideal S8x1 .f32) (ix2 b 0) = run (u b) (k.val + 1) := by
  rw [run_succ, ← h.rows k b, ← h.prod b, ← row_at (X (Proc.devRef .tc main_v6_0)) k (offs X) (start_at X k h.ctr) b]
  rfl

/-- One trip. -/
theorem trip_step (X : Valuation τ sig (Elt Ideal)) (u : Fin 8 → Fin 2048 → EReal) (k : Fin 2048) (h : Trip X u k.val) : Trip (STEP X) u (k.val + 1) where
  rows j b := by rw [STEP_main_v6_0]; exact h.rows j b
  ctr := by
    rw [STEP_main_v6_1, step_main_v6_1, h.ctr]
    funext i
    exact (BitVec.ofNat_add k.val 1).symm
  prod b := by
    rw [STEP_main_v6_2]
    exact res_at X u k h b
  done j b hj := by
    rw [STEP_main_v6_3]
    refine (put_at _ _ k (offs X) (start_at X k h.ctr) j b).trans ?_
    split
    · rename_i e
      rw [e]
      exact res_at X u k h b
    · rename_i e
      exact h.done j b (Nat.lt_of_le_of_ne (Nat.le_of_lt_succ hj) fun e' => e (Fin.ext e'))

/-- The usages, by batch entry. -/
abbrev usage (b : Fin 8) (j : Fin 2048) : EReal := uArg m c (ix3 b 0 j)

/-- What the loop holds before each trip. -/
theorem trips : ∀ k, k ≤ 2048 → Trip (STEP^[k] (entryContents preI m c)) (usage m c) k
  | 0, _ => {
      rows := fun j b => by
        show (entryContents preI m c (Proc.devRef .tc main_v6_0) : FVec Ideal S2048x8x1 .f32) (ix3 j b 0) = _
        rw [entry_v6_0]
        pointwise [sort_at (uArg m c)]
      ctr := ctr_entry m c
      prod := fun b => by
        show (entryContents preI m c (Proc.devRef .tc main_v6_2) : FVec Ideal S8x1 .f32) (ix2 b 0) = _
        rw [entry_v6_2, run_zero]
        pointwise
      done := fun j b h => absurd h (Nat.not_lt_zero _) }
  | k + 1, h => by
    rw [Function.iterate_succ_apply']
    exact trip_step _ _ ⟨k, h⟩ (trips k (Nat.le_of_succ_le h))

/-- The products that the loop leaves. -/
theorem read_v6_3 (j : Fin 2048) (b : Fin 8) : (fin m c (Proc.devRef .tc main_v6_3) : FVec Ideal S2048x8x1 .f32) (ix3 j b 0) = run (usage m c b) (j.val + 1) := by
  rw [fin_mid m c main_v6_3 (by decide +kernel), mid, cond_keeps _ main_v6_3 (by decide +kernel), atK_agree m c 2048 main_v6_3 (by decide +kernel)]
  exact (trips m c 2048 le_rfl).done j b j.isLt

/-- The sorted usages. -/
theorem read_v0 (b : Fin 8) (k : Fin 2048) : (fin m c (Proc.devRef .tc main_v0) : FVec Ideal S8x1x2048 .f32) (ix3 b 0 k) = usage m c b (place (usage m c b) k) := by
  rw [fin_mid m c main_v0 (by decide +kernel), mid_keep m c main_v0 (by decide +kernel), entry_v0]
  exact sort_at _ b k

/-- The positions of the usages. -/
theorem read_v2 (b : Fin 8) (i : Fin 2048) : (fin m c (Proc.devRef .tc main_v2) : IVec S8x1x2048 32) (ix3 b 0 i) = BitVec.ofNat 32 (back (usage m c b) i).val := by
  rw [fin_mid m c main_v2 (by decide +kernel), mid_keep m c main_v2 (by decide +kernel), entry_v2]
  exact argsort2_at _ b i

/-- The allocation weights in sorted order. -/
theorem read_v11 (b : Fin 8) (k : Fin 2048) : (fin m c (Proc.devRef .tc main_v11) : FVec Ideal S8x1x2048 .f32) (ix3 b 0 k)
    = (1 - usage m c b (place (usage m c b) k)) * Ideal.div (run (usage m c b) (k.val + 1)) (usage m c b (place (usage m c b) k)) := by
  rw [fin_two (y := main_v11) 5 rfl (by decide), fin_two (y := main_v10) 4 rfl (by decide), fin_one (y := main_v9) 3 rfl (by decide),
    fin_zero (y := main_cst_1) 2 rfl (by decide), fin_two (y := main_v8) 1 rfl (by decide), fin_one (y := main_v7) 0 rfl (by decide)]
  pointwise [read_v6_3 m c, read_v0 m c]

end Cert.Ref

end
-- ==== Proof.Ref.Alloc.lean ====
/- The reference's allocation weights: the sorted weights read back in the order of the cells. -/
module

public import proofs.«01_k».proof.Proof.Ref.Loop
public import Idealize.ShloMosaic.Lib.ReduceAll

@[expose] public section

set_option maxRecDepth 16384

noncomputable section

open Idealize.ShloMosaic Idealize.ShloMosaic.TcCoe Idealize.SL.Sem

namespace Cert.Ref

open Cert.ReferenceIdeal Cert.ReferenceIdeal.Gen Cert.ReferenceIdeal.Value StableHlo Cert.Dnc

attribute [local irreducible] fin

variable (m : (ℓ : Loc nD τ sig) → Buf (Elt Ideal) ℓ) (c : Dev nD)

/-- A position's word is in range. -/
theorem word_range (n : ℕ) (hn : n < 2048) : IntOp.cmpi .slt (BitVec.ofNat 32 n) 0#32 = 0#1 ∧ IntOp.cmpi .sge (BitVec.ofNat 32 n) 0#32 = 1#1
    ∧ IntOp.cmpi .sle (BitVec.ofNat 32 n) 2047#32 = 1#1 := by
  have h := word_toInt n hn
  have f : ∀ x y : Bool, x = y → BitVec.ofBool x = BitVec.ofBool y := fun _ _ => congrArg _
  refine ⟨f _ false ?_, f _ true ?_, f _ true ?_⟩
  · rw [BitVec.slt_eq_decide, h]
    exact decide_eq_false (not_lt.mpr (Int.natCast_nonneg n))
  · rw [BitVec.sle_eq_decide]
    have h0 : (0 : ℤ) ≤ (BitVec.ofNat 32 n).toInt := by rw [h]; omega
    exact decide_eq_true h0
  · rw [BitVec.sle_eq_decide, h]
    refine decide_eq_true ?_
    show (n : ℤ) ≤ 2047
    omega

/-- The positions that the weights are read back from. -/
theorem read_call5_v5 (b : Fin 8) (i : Fin 2048) : (fin m c (Proc.devRef .tc main_call5_v5) : IVec S8x2048x1 32) (ix3 b i 0) = BitVec.ofNat 32 (back (usage m c b) i).val := by
  rw [fin_reshape (y := main_call5_v5) 13 rfl (by decide), fin_three (y := main_call5_v4) 12 rfl (by decide), fin_two (y := main_call5_v1) 8 rfl (by decide),
    fin_one (y := main_call5_v0) 7 rfl (by decide), fin_zero (y := main_call5_c) 6 rfl (by decide)]
  simp -implicitDefEqProofs only [TRef.toBuf, TRef.ofBuf, cast_eq]
  pointwise [read_v2 m c, (word_range (back (usage m c b) i).val (Fin.isLt _)).1]

/-- All of them are in range. -/
theorem read_call5_v12 (b : Fin 8) (i : Fin 2048) : (fin m c (Proc.devRef .tc main_call5_v12) : IVec S8x2048 1) (ix2 b i) = 1#1 := by
  rw [fin_two (y := main_call5_v12) 23 rfl (by decide), fin_zero (y := main_call5_c_3) 22 rfl (by decide), fin_two (y := main_call5_v11) 21 rfl (by decide),
    fin_two (y := main_call5_v10) 20 rfl (by decide), fin_one (y := main_call5_v9) 19 rfl (by decide), fin_one (y := main_call5_v8) 18 rfl (by decide),
    fin_two (y := main_call5_v7) 17 rfl (by decide), fin_one (y := main_call5_v6) 16 rfl (by decide), fin_zero (y := main_call5_c_2) 15 rfl (by decide),
    fin_zero (y := main_call5_c_1) 14 rfl (by decide)]
  simp -implicitDefEqProofs only [TRef.toBuf, TRef.ofBuf, cast_eq]
  refine Host.reduce_andi_one _ _ _ _ _ rfl fun y => ?_
  idx_vars y
  obtain rfl : y2 = 0 := Subsingleton.elim _ _
  pointwise [read_call5_v5 m c, (word_range (back (usage m c y0) y1).val (Fin.isLt _)).2.1, (word_range (back (usage m c y0) y1).val (Fin.isLt _)).2.2]
  rfl

/-- The word that selects the weights read back. -/
theorem read_call5_v14 (b : Fin 8) (i : Fin 2048) : (fin m c (Proc.devRef .tc main_call5_v14) : IVec S8x1x2048 1) (ix3 b 0 i) = 1#1 := by
  rw [fin_one (y := main_call5_v14) 25 rfl (by decide)]
  simp -implicitDefEqProofs only [TRef.toBuf, TRef.ofBuf, cast_eq]
  pointwise [read_call5_v12 m c b i]

/-- The weights read back. -/
theorem read_call5_v13 (b : Fin 8) (i : Fin 2048) : (fin m c (Proc.devRef .tc main_call5_v13) : FVec Ideal S8x1x2048 .f32) (ix3 b 0 i)
    = (fin m c (Proc.devRef .tc main_v11) : FVec Ideal S8x1x2048 .f32) (ix3 b 0 (back (usage m c b) i)) := by
  rw [fin_two (y := main_call5_v13) 24 rfl (by decide)]
  simp -implicitDefEqProofs only [TRef.toBuf, TRef.ofBuf, cast_eq]
  exact gather_at _ _ b i _ (read_call5_v5 m c b i)

/-- The allocation weights. -/
theorem read_v12 (hu : ∀ b j, usage m c b j ≠ 0 ∧ usage m c b j ≠ ⊤ ∧ usage m c b j ≠ ⊥) (b : Fin 8) (i : Fin 2048) :
    al m c b i = alloc (usage m c b) i := by
  unfold al
  rw [fin_three (y := main_v12) 28 rfl (by decide)]
  simp -implicitDefEqProofs only [TRef.toBuf, TRef.ofBuf, cast_eq]
  show Scalar.select (fin m c (Proc.devRef .tc main_call5_v14) (ix3 b 0 i) : BitVec 1) (fin m c (Proc.devRef .tc main_call5_v13) (ix3 b 0 i) : EReal)
    (fin m c (Proc.devRef .tc main_call5_v15) (ix3 b 0 i) : EReal) = _
  rw [read_call5_v14 m c b i]
  refine (ValueIdx.select_one _ _).trans ?_
  rw [read_call5_v13, read_v11]
  exact alloc_run _ i (hu b i).1 (hu b i).2.1 (hu b i).2.2

end Cert.Ref

end
-- ==== Proof.Algebra.lean ====
/- The two places where the kernel's formulas and the reference's differ, for usages and gates that are real numbers. -/
module

public import proofs.«01_k».proof.Proof.Spec

@[expose] public section

noncomputable section

open Idealize.ShloMosaic

namespace Cert.Dnc

/-- A product of real numbers is a real number. -/
theorem coe_prod {ι : Type} (s : Finset ι) (f : ι → ℝ) : ((∏ i ∈ s, f i : ℝ) : EReal) = ∏ i ∈ s, (f i : EReal) := by
  classical
  induction s using Finset.induction_on with
  | empty => rfl
  | insert a s h ih => rw [Finset.prod_insert h, Finset.prod_insert h, EReal.coe_mul, ih]

/-- A sum of real numbers is a real number. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- The exponential of a sum of logarithms of positive reals is their product. -/
theorem exp_sum_log (p : Fin 2048 → Prop) [DecidablePred p] (r : Fin 2048 → ℝ) (hr : ∀ j, 0 < r j) :
    Ideal.exp (∑ j, if p j then Ideal.log (r j) else 0) = ∏ j, if p j then (r j : EReal) else 1 := by
  have e1 : ∀ j, (if p j then Ideal.log (r j) else 0) = ((if p j then Real.log (r j) else 0 : ℝ) : EReal) := fun j => by
    split
    · exact if_neg (not_le.mpr (hr j))
    · rfl
  have e2 : ∀ j, (if p j then (r j : EReal) else 1) = ((if p j then r j else 1 : ℝ) : EReal) := fun j => by
    split <;> rfl
  rw [Finset.sum_congr rfl fun j _ => e1 j, Finset.prod_congr rfl fun j _ => e2 j, ← coe_sum, ← coe_prod]
  refine congrArg Real.toEReal ((Real.exp_sum _ _).trans (Finset.prod_congr rfl fun j _ => ?_))
  split
  · exact Real.exp_log (hr j)
  · exact Real.exp_zero

/-- The least number the kernel takes the logarithm of is positive. -/
theorem floorW_pos : 0 < floorW := by
  have e : floorW = ((8920298 * 2 ^ (-146 : ℤ) : ℝ) : EReal) := by
    simp [floorW, Ideal.ofBits, Ideal.ieee, -EReal.coe_mul]
  rw [e]
  exact EReal.coe_pos.mpr (by positivity)

/-- Where no usage is below that number, the kernel's allocation weight is the reference's. -/
theorem allocLog_eq (u : Fin 2048 → EReal) (h : ∀ j, floorW ≤ u j) (ht : ∀ j, u j < ⊤) (i : Fin 2048) : allocLog u i = alloc u i := by
  have hb : ∀ j, 0 < u j := fun j => floorW_pos.trans_le (h j)
  obtain ⟨r, rfl⟩ : ∃ r : Fin 2048 → ℝ, u = fun j => (r j : EReal) :=
    ⟨fun j => (u j).toReal, funext fun j => (EReal.coe_toReal (ht j).ne (ne_bot_of_gt (hb j))).symm⟩
  unfold allocLog alloc
  rw [Finset.sum_congr rfl fun j _ => by rw [max_eq_left (h j)], exp_sum_log _ r fun j => EReal.coe_pos.mp (hb j)]

/-- The allocation weight is a real number when the usages are. -/
theorem alloc_real (r : Fin 2048 → ℝ) (i : Fin 2048) : ∃ x : ℝ, alloc (fun j => (r j : EReal)) i = x := by
  refine ⟨(1 - r i) * ∏ j, if Before (fun j => (r j : EReal)) j i then r j else 1, ?_⟩
  rw [EReal.coe_mul, coe_prod]
  refine congrArg₂ (fun x y : EReal => x * y) rfl (Finset.prod_congr rfl fun j _ => ?_)
  split <;> rfl

/-- Exponentials are not negative. -/
theorem exp_nonneg (x : EReal) : 0 ≤ Ideal.exp x := by
  induction x with
  | bot => exact le_rfl
  | top => exact le_top
  | coe r => exact EReal.coe_nonneg.mpr (Real.exp_pos r).le

/-- A softmax row is of one sign. -/
theorem soft_sign (f : Fin 2048 → EReal) : (∀ j, soft f j = ⊥) ∨ ∀ j, 0 ≤ soft f j := by
  by_cases hD : (∑ l, Ideal.exp (f l - Finset.univ.fold max lowW f)) = 0
  · refine Or.inl fun j => ?_
    have hj := (Finset.sum_eq_zero_iff_of_nonneg fun l _ => exp_nonneg _).mp hD j (Finset.mem_univ j)
    unfold soft
    rw [hD, hj, Ideal.div, if_pos rfl, if_neg (lt_irrefl _)]
  · refine Or.inr fun j => ?_
    unfold soft
    rw [Ideal.div, if_neg hD]
    exact mul_nonneg (exp_nonneg _) (EReal.inv_nonneg_of_nonneg (Finset.sum_nonneg fun l _ => exp_nonneg _))

variable (A : In)

/-- The content's write weights in a row are of one sign. -/
theorem wc_sign (b : Fin 8) : (∀ j, 0 ≤ wc A b j) ∨ ∀ j, wc A b j ≤ 0 := by
  unfold wc
  rcases soft_sign (sim (A.mem b) (A.wk b)) with h | h
  · rcases le_total 0 ((⊥ : EReal) * A.ws b) with h' | h'
    · exact Or.inl fun j => by rw [h j]; exact h'
    · exact Or.inr fun j => by rw [h j]; exact h'
  · rcases le_total 0 (A.ws b) with h' | h'
    · exact Or.inl fun j => mul_nonneg (h j) h'
    · exact Or.inr fun j => EReal.mul_nonpos_iff.mpr (Or.inl ⟨h j, h'⟩)

/-- No row of write weights holds both infinities. -/
theorem ww_one_infinity (b : Fin 8) (r : Fin 2048 → ℝ) (g h : ℝ) (hr : A.u b = fun j => (r j : EReal)) (hg : A.ag b = g) (hh : A.wg b = h)
    (i j : Fin 2048) (hi : ww A b i = ⊥) (hj : ww A b j = ⊤) : False := by
  obtain ⟨x, hx⟩ := alloc_real r i
  obtain ⟨y, hy⟩ := alloc_real r j
  unfold ww wwOf at hi hj
  simp only [hr, hg, hh, hx, hy] at hi hj
  have real : ∀ x z : ℝ, ((g : EReal) * ((x : EReal) - (z : EReal)) + (z : EReal)) * (h : EReal) = (((g * (x - z) + z) * h : ℝ) : EReal) := fun x z => by
    push_cast
    rfl
  have st : ∀ x : ℝ, (x : EReal) - ⊤ = ⊥ := fun x => by rw [sub_eq_add_neg, EReal.neg_top, EReal.add_bot]
  have si := wc_sign A b
  generalize wc A b = w at hi hj si
  generalize hwi : w i = a at hi
  generalize hwj : w j = d at hj
  have si : (0 ≤ a ∧ 0 ≤ d) ∨ (a ≤ 0 ∧ d ≤ 0) := si.imp (fun s => ⟨hwi ▸ s i, hwj ▸ s j⟩) fun s => ⟨hwi ▸ s i, hwj ▸ s j⟩
  induction a with
  | coe a => rw [real] at hi; exact EReal.coe_ne_bot _ hi
  | bot =>
    induction d with
    | coe d => rw [real] at hj; exact EReal.coe_ne_top _ hj
    | bot => rw [EReal.coe_sub_bot] at hi hj; rw [hi] at hj; exact bot_ne_top hj
    | top => rcases si with s | s
             · exact absurd s.1 (by decide)
             · exact absurd s.2 (by decide)
  | top =>
    induction d with
    | coe d => rw [real] at hj; exact EReal.coe_ne_top _ hj
    | top => rw [st] at hi hj; rw [hi] at hj; exact bot_ne_top hj
    | bot => rcases si with s | s
             · exact absurd s.2 (by decide)
             · exact absurd s.1 (by decide)

/-- Taking two write weights of a row from one in turn is taking their sum from it. -/
theorem sub_sub_ww (b : Fin 8) (r : Fin 2048 → ℝ) (g h : ℝ) (hr : A.u b = fun j => (r j : EReal)) (hg : A.ag b = g) (hh : A.wg b = h)
    (i j : Fin 2048) : 1 - ww A b i - ww A b j = 1 - (ww A b i + ww A b j) := by
  have no := ww_one_infinity A b r g h hr hg hh
  rw [sub_eq_add_neg 1 (ww A b i + ww A b j), EReal.neg_add, sub_eq_add_neg, sub_eq_add_neg, sub_eq_add_neg, add_assoc]
  · by_contra hc
    rw [not_or, not_not, not_not] at hc
    exact no i j hc.1 hc.2
  · by_contra hc
    rw [not_or, not_not, not_not] at hc
    exact no j i hc.2 hc.1

end Cert.Dnc

end
-- ==== Proof.Pre.lean ====
/- What the precondition says of an entry. -/
module

public import proofs.«01_k».proof.Defs
public import proofs.«01_k».proof.Proof.Spec

@[expose] public section

set_option maxRecDepth 16384

noncomputable section

open Idealize.ShloMosaic

namespace Cert.Pre_usage_in_range

open Cert.Dnc

/-- The shapes of the precondition's constants fit. -/
theorem facts : Facts where
  bcast_S_S8x1x2048 := by decide
  bcast_S_S8x1x1 := by decide
  bcast_S8x1x1_S8x1x2048_0_1_2 := by decide

/-- The word of positive infinity. -/
theorem top_word : Ideal.ofBits .f32 0x7F800000#32 = ⊤ := by simp [Ideal.ofBits, Ideal.ieee]

/-- The word of negative infinity. -/
theorem bot_word : Ideal.ofBits .f32 0xFF800000#32 = ⊥ := by simp [Ideal.ofBits, Ideal.ieee]

/-- A conjunction of two words that hold. -/
theorem both (x y : BitVec 1) (h : IntOp.andi x y = 1#1) : x = 1#1 ∧ y = 1#1 := by
  revert x y
  decide

/-- A comparison that holds. -/
theorem holds (p : Prop) [Decidable p] (h : BitVec.ofBool (decide p) = 1#1) : p := by
  by_contra hp
  rw [decide_eq_false hp] at h
  exact absurd h (by decide)

/-- The precondition of an entry: a usage that is no less than the least number a logarithm is taken of and not
    infinite, and two real gates. -/
theorem entry (i : Facts) (a0 : FVec Ideal S8x2048x64 .f32) (a1 : FVec Ideal S8x1x2048 .f32) (a2 : FVec Ideal S8x4x2048 .f32) (a3 : FVec Ideal S8x2048x2048 .f32)
    (a4 : FVec Ideal S8x1x2048 .f32) (a5 : FVec Ideal S8x1x64 .f32) (a6 a7 a8 : FVec Ideal S8x1x1 .f32) (a9 a10 : FVec Ideal S8x1x64 .f32)
    (a11 : FVec Ideal S8x4x64 .f32) (a12 : FVec Ideal S8x4x1 .f32) (a13 : FVec Ideal S8x4x3 .f32) (a14 : FVec Ideal S8x1x2048 .f32)
    (h : fn (F := Ideal) a0 a1 a2 a3 a4 a5 a6 a7 a8 a9 a10 a11 a12 a13 a14 = fun _ => 1#1) (b : Fin 8) (j : Fin 2048) :
    (floorW ≤ a1 (ix3 b 0 j) ∧ a1 (ix3 b 0 j) < ⊤) ∧ (a7 (ix3 b 0 0) < ⊤ ∧ ⊥ < a7 (ix3 b 0 0)) ∧ a8 (ix3 b 0 0) < ⊤ ∧ ⊥ < a8 (ix3 b 0 0) := by
  have e : fn (F := Ideal) a0 a1 a2 a3 a4 a5 a6 a7 a8 a9 a10 a11 a12 a13 a14 (ix3 b 0 j) =
      IntOp.andi (IntOp.andi (IntOp.andi (IntOp.andi (IntOp.andi (BitVec.ofBool (decide (floorW ≤ a1 (ix3 b 0 j)))) (BitVec.ofBool (decide (a1 (ix3 b 0 j) < ⊤))))
        (BitVec.ofBool (decide (a7 (ix3 b 0 0) < ⊤)))) (BitVec.ofBool (decide (⊥ < a7 (ix3 b 0 0)))))
        (BitVec.ofBool (decide (a8 (ix3 b 0 0) < ⊤)))) (BitVec.ofBool (decide (⊥ < a8 (ix3 b 0 0)))) := by
    unfold fn fn_part1
    rw [← top_word, ← bot_word]
    pointwise
  have h1 := e.symm.trans (congrFun h (ix3 b 0 j))
  obtain ⟨h1, h8'⟩ := both _ _ h1
  obtain ⟨h1, h8⟩ := both _ _ h1
  obtain ⟨h1, h7'⟩ := both _ _ h1
  obtain ⟨h1, h7⟩ := both _ _ h1
  obtain ⟨h1, h1'⟩ := both _ _ h1
  exact ⟨⟨holds _ h1, holds _ h1'⟩, ⟨holds _ h7, holds _ h7'⟩, holds _ h8, holds _ h8'⟩

end Cert.Pre_usage_in_range

end
-- ==== Proof.Value.lean ====
/- What the kernel and the reference compute, put side by side. -/
module

public import proofs.«01_k».proof.Proof.KernelIdeal.Final
public import proofs.«01_k».proof.Proof.Ref.Alloc
public import proofs.«01_k».proof.Proof.Algebra
public import proofs.«01_k».proof.Proof.Pre

@[expose] public section

set_option maxRecDepth 16384

noncomputable section

open Idealize.ShloMosaic Idealize.ShloMosaic.TcCoe Idealize.SL.Sem
open Cert.Dnc

namespace Cert.Ref

open Cert.ReferenceIdeal

attribute [local irreducible] fin

variable (m : (ℓ : Loc nD τ sig) → Buf (Elt Ideal) ℓ) (c : Dev nD) (hal : ∀ b j, al m c b j = alloc ((inp m c).u b) j)

include hal

/-- The values read. -/
theorem whole_v100 : fin m c (Proc.devRef .tc main_v100) = fun y : S8x4x64.Idx => readN (inp m c) (y 0) (y 1) (y 2) := by
  funext y
  idx_vars y
  exact read_v100 m c hal y0 y1 y2

/-- The new memory. -/
theorem whole_v48 : fin m c (Proc.devRef .tc main_v48) = fun y : S8x2048x64.Idx => memN (inp m c) (y 0) (y 1) (y 2) := by
  funext y
  idx_vars y
  exact read_v48 m c hal y0 y1 y2

/-- The new usage. -/
theorem whole_v114 : fin m c (Proc.devRef .tc main_v114) = fun y : S8x1x2048.Idx => useN (inp m c) (y 0) (y 2) := by
  funext y
  idx_vars y
  obtain rfl : y1 = 0 := Subsingleton.elim _ _
  exact read_v114 m c hal y0 y2

/-- The new read weights. -/
theorem whole_v99 : fin m c (Proc.devRef .tc main_v99) = fun y : S8x4x2048.Idx => rwN (inp m c) (y 0) (y 1) (y 2) := by
  funext y
  idx_vars y
  exact read_v99 m c hal y0 y1 y2

/-- The new temporal link. -/
theorem whole_v56 : fin m c (Proc.devRef .tc main_v56) = fun y : S8x2048x2048.Idx => linkN (inp m c) (y 0) (y 1) (y 2) := by
  funext y
  idx_vars y
  exact read_v56 m c hal y0 y1 y2

/-- The new precedence. -/
theorem whole_v61 : fin m c (Proc.devRef .tc main_v61) = fun y : S8x1x2048.Idx => precN (inp m c) (y 0) (y 2) := by
  funext y
  idx_vars y
  obtain rfl : y1 = 0 := Subsingleton.elim _ _
  exact read_v61 m c hal y0 y2

end Cert.Ref

namespace Cert.Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Equal arguments. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- With equal arguments the two programs have the same entries. -/
theorem same_inp (c : Dev Cert.KernelIdeal.nD) (h : Same m m' c) : Cert.Ref.inp m' c = Cert.KernelIdeal.Body.inp m c := by
  obtain ⟨h0, h1, h2, h3, h4, h5, h6, h7, h8, h9, h10, h11, h12, h13, h14⟩ := h
  unfold Cert.Ref.inp Cert.KernelIdeal.Body.inp
  rw [Cert.Ref.fin_arg m' c Cert.ReferenceIdeal.main_arg0 (by decide +kernel), Cert.Ref.fin_arg m' c Cert.ReferenceIdeal.main_arg1 (by decide +kernel), Cert.Ref.fin_arg m' c Cert.ReferenceIdeal.main_arg2 (by decide +kernel), Cert.Ref.fin_arg m' c Cert.ReferenceIdeal.main_arg3 (by decide +kernel), Cert.Ref.fin_arg m' c Cert.ReferenceIdeal.main_arg4 (by decide +kernel), Cert.Ref.fin_arg m' c Cert.ReferenceIdeal.main_arg5 (by decide +kernel), Cert.Ref.fin_arg m' c Cert.ReferenceIdeal.main_arg6 (by decide +kernel), Cert.Ref.fin_arg m' c Cert.ReferenceIdeal.main_arg7 (by decide +kernel), Cert.Ref.fin_arg m' c Cert.ReferenceIdeal.main_arg8 (by decide +kernel), Cert.Ref.fin_arg m' c Cert.ReferenceIdeal.main_arg9 (by decide +kernel), Cert.Ref.fin_arg m' c Cert.ReferenceIdeal.main_arg10 (by decide +kernel), Cert.Ref.fin_arg m' c Cert.ReferenceIdeal.main_arg11 (by decide +kernel), Cert.Ref.fin_arg m' c Cert.ReferenceIdeal.main_arg12 (by decide +kernel), Cert.Ref.fin_arg m' c Cert.ReferenceIdeal.main_arg13 (by decide +kernel), Cert.Ref.fin_arg m' c Cert.ReferenceIdeal.main_arg14 (by decide +kernel)]
  rw [h0, h1, h2, h3, h4, h5, h6, h7, h8, h9, h10, h11, h12, h13, h14]

/-- What the precondition says of the kernel's entries. -/
structure Real (A : In) : Prop where
  u : ∀ b j, floorW ≤ A.u b j ∧ A.u b j < ⊤
  ag : ∀ b, A.ag b < ⊤ ∧ ⊥ < A.ag b
  wg : ∀ b, A.wg b < ⊤ ∧ ⊥ < A.wg b

/-- The precondition gives it. -/
theorem real_inp (h : Pre_KernelIdeal_usage_in_range (hPre_usage_in_range := Cert.Pre_usage_in_range.facts) m) (c : Dev Cert.KernelIdeal.nD) :
    Real (Cert.KernelIdeal.Body.inp m c) where
  u b j := (Cert.Pre_usage_in_range.entry _ _ _ _ _ _ _ _ _ _ _ _ _ _ _ _ (h c) b j).1
  ag b := (Cert.Pre_usage_in_range.entry _ _ _ _ _ _ _ _ _ _ _ _ _ _ _ _ (h c) b 0).2.1
  wg b := (Cert.Pre_usage_in_range.entry _ _ _ _ _ _ _ _ _ _ _ _ _ _ _ _ (h c) b 0).2.2

/-- A usage is positive. -/
theorem Real.pos {A : In} (h : Real A) (b : Fin 8) (j : Fin 2048) : 0 < A.u b j := floorW_pos.trans_le (h.u b j).1

/-- The two allocation weights agree. -/
theorem Real.alloc {A : In} (h : Real A) (b : Fin 8) (j : Fin 2048) : allocLog (A.u b) j = Cert.Dnc.alloc (A.u b) j :=
  allocLog_eq (A.u b) (fun j => (h.u b j).1) (fun j => (h.u b j).2) j

/-- The two ways of taking write weights from one agree. -/
theorem Real.sub {A : In} (h : Real A) (b : Fin 8) (i j : Fin 2048) : 1 - ww A b i - ww A b j = 1 - (ww A b i + ww A b j) :=
  sub_sub_ww A b (fun j => (A.u b j).toReal) (A.ag b).toReal (A.wg b).toReal
    (funext fun j => (EReal.coe_toReal (h.u b j).2.ne (ne_bot_of_gt (h.pos b j))).symm)
    (EReal.coe_toReal (h.ag b).1.ne (ne_bot_of_gt (h.ag b).2)).symm (EReal.coe_toReal (h.wg b).1.ne (ne_bot_of_gt (h.wg b).2)).symm i j

/-- The reference's allocation weights. -/
theorem al_eq (c : Dev Cert.KernelIdeal.nD) (h : Same m m' c) (hr : Real (Cert.KernelIdeal.Body.inp m c)) (b : Fin 8) (j : Fin 2048) :
    Cert.Ref.al m' c b j = Cert.Dnc.alloc ((Cert.Ref.inp m' c).u b) j := by
  have e : (Cert.Ref.inp m' c).u = Cert.Ref.usage m' c := by
    unfold Cert.Ref.inp
    rw [Cert.Ref.fin_arg m' c Cert.ReferenceIdeal.main_arg1 (by decide +kernel)]
    rfl
  rw [e]
  refine Cert.Ref.read_v12 m' c (fun b j => ?_) b j
  rw [← e, same_inp m m' c h]
  exact ⟨(hr.pos b j).ne', (hr.u b j).2.ne, ne_bot_of_gt (hr.pos b j)⟩

/-- On arguments in range, with real gates, the kernel and the reference compute the same arrays. -/
theorem algebraic : algebraic_KernelIdeal_ReferenceIdeal_pre_usage_in_range (hKernelIdeal := Cert.KernelIdeal.Gen.facts)
    (hReferenceIdeal := Cert.ReferenceIdeal.Gen.facts) (hPre_usage_in_range := Cert.Pre_usage_in_range.facts) := by
  intro m g m' g' hpre hsame
  have hr : ∀ c, Real (Cert.KernelIdeal.Body.inp m c) := real_inp m hpre
  have hal : ∀ c b j, Cert.Ref.al m' c b j = Cert.Dnc.alloc ((Cert.Ref.inp m' c).u b) j := fun c => al_eq m m' c (hsame c) (hr c)
  have hin : ∀ c, Cert.Ref.inp m' c = Cert.KernelIdeal.Body.inp m c := fun c => same_inp m m' c (hsame c)
  refine ⟨fun c => (fun y : Cert.KernelIdeal.S8x4x64.Idx => readN (Cert.KernelIdeal.Body.inp m c) (y 0) (y 1) (y 2) : FVec Ideal Cert.KernelIdeal.S8x4x64 .f32),
    fun c => (fun y : Cert.KernelIdeal.S8x2048x64.Idx => memN (Cert.KernelIdeal.Body.inp m c) (y 0) (y 1) (y 2) : FVec Ideal Cert.KernelIdeal.S8x2048x64 .f32),
    fun c => (fun y : Cert.KernelIdeal.S8x1x2048.Idx => useN (Cert.KernelIdeal.Body.inp m c) (y 0) (y 2) : FVec Ideal Cert.KernelIdeal.S8x1x2048 .f32),
    fun c => (fun y : Cert.KernelIdeal.S8x4x2048.Idx => rwN (Cert.KernelIdeal.Body.inp m c) (y 0) (y 1) (y 2) : FVec Ideal Cert.KernelIdeal.S8x4x2048 .f32),
    fun c => (fun y : Cert.KernelIdeal.S8x2048x2048.Idx => linkN (Cert.KernelIdeal.Body.inp m c) (y 0) (y 1) (y 2) : FVec Ideal Cert.KernelIdeal.S8x2048x2048 .f32),
    fun c => (fun y : Cert.KernelIdeal.S8x1x2048.Idx => precN (Cert.KernelIdeal.Body.inp m c) (y 0) (y 2) : FVec Ideal Cert.KernelIdeal.S8x1x2048 .f32), ?_, ?_⟩
  · refine (θ_run Cert.KernelIdeal.defs _ _).mono (fun r h c => ?_) (θ_run_and (Cert.KernelIdeal.Body.run_main m g) (Cert.KernelIdeal.Body.frame m g))
    exact ⟨(h.1.out_eq c 22).trans (Cert.KernelIdeal.Body.final_22 m c (hr c).alloc (hr c).sub), (h.1.out_eq c 20).trans (Cert.KernelIdeal.Body.final_20 m c (hr c).alloc (hr c).sub), (h.1.out_eq c 23).trans (Cert.KernelIdeal.Body.final_23 m c (hr c).alloc (hr c).sub), (h.1.out_eq c 21).trans (Cert.KernelIdeal.Body.final_21 m c (hr c).alloc (hr c).sub), (h.1.out_eq c 19).trans (Cert.KernelIdeal.Body.final_19 m c (hr c).alloc (hr c).sub), (h.1.out_eq c 24).trans (Cert.KernelIdeal.Body.final_24 m c (hr c).alloc (hr c).sub), h.2.1 c⟩
  · refine (θ_run Cert.ReferenceIdeal.defs _ _).mono (fun r h c => ?_) (θ_run_and (Cert.Ref.run_fin g' m') (Cert.Ref.frame g' m'))
    exact ⟨((h.1.1 c Cert.ReferenceIdeal.main_v100 rfl).trans (Cert.Ref.whole_v100 m' c (hal c))).trans (by rw [hin c]), ((h.1.1 c Cert.ReferenceIdeal.main_v48 rfl).trans (Cert.Ref.whole_v48 m' c (hal c))).trans (by rw [hin c]), ((h.1.1 c Cert.ReferenceIdeal.main_v114 rfl).trans (Cert.Ref.whole_v114 m' c (hal c))).trans (by rw [hin c]), ((h.1.1 c Cert.ReferenceIdeal.main_v99 rfl).trans (Cert.Ref.whole_v99 m' c (hal c))).trans (by rw [hin c]), ((h.1.1 c Cert.ReferenceIdeal.main_v56 rfl).trans (Cert.Ref.whole_v56 m' c (hal c))).trans (by rw [hin c]), ((h.1.1 c Cert.ReferenceIdeal.main_v61 rfl).trans (Cert.Ref.whole_v61 m' c (hal c))).trans (by rw [hin c]), h.2.1 c⟩

end Cert.Value

end
-- ==== Proof.lean ====
/- The certificate: the frames of the three programs and what the kernel computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Sound
public import proofs.«01_k».proof.Proof.KernelIdeal.Sound
public import proofs.«01_k».proof.Proof.Ref.Fin
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts, Cert.Pre_usage_in_range.facts,
  fun m ρ _ => Cert.Kernel.Body.frame m ρ, fun m ρ _ => Cert.KernelIdeal.Body.frame m ρ, fun m ρ _ => Cert.KernelIdeal.Body.frame m ρ,
  fun m ρ _ => Cert.Ref.frame ρ m, fun m ρ _ => Cert.Ref.frame ρ m, trivial, Cert.Value.algebraic⟩

end Cert.Proof

end
